-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S64x2048 : Shape := ⟨2, ![64, 2048]⟩
abbrev S32x64x1 : Shape := ⟨3, ![32, 64, 1]⟩
abbrev S64x31232 : Shape := ⟨2, ![64, 31232]⟩
abbrev S1x64x1 : Shape := ⟨3, ![1, 64, 1]⟩
abbrev S64x512 : Shape := ⟨2, ![64, 512]⟩
abbrev S64 : Shape := ⟨1, ![64]⟩
abbrev S64x1 : Shape := ⟨2, ![64, 1]⟩
abbrev S32x64 : Shape := ⟨2, ![32, 64]⟩
abbrev S64x32 : Shape := ⟨2, ![64, 32]⟩
abbrev S64x576 : Shape := ⟨2, ![64, 576]⟩

abbrev nBuf : Space → Nat
  | .hbm => 17
  | .vmem => 21
  | .smem => 0
  | _ => 0

abbrev bufTy : (tb : Table) → Fin (tcTables nBuf tb) → BufTy
  | .hbm, ⟨0, _⟩ => ⟨S64x1000000, .f32⟩
  | .hbm, ⟨1, _⟩ => ⟨S64x1000000, .f32⟩
  | .hbm, ⟨2, _⟩ => ⟨S32x64x1, .f32⟩
  | .hbm, ⟨3, _⟩ => ⟨S32x64x1, .f32⟩
  | .hbm, ⟨4, _⟩ => ⟨S32x64x1, .f32⟩
  | .hbm, ⟨5, _⟩ => ⟨S32x64x1, .i32⟩
  | .hbm, ⟨6, _⟩ => ⟨S32x64, .f32⟩
  | .hbm, ⟨7, _⟩ => ⟨S64x32, .f32⟩
  | .hbm, ⟨8, _⟩ => ⟨S32x64, .f32⟩
  | .hbm, ⟨9, _⟩ => ⟨S64x32, .f32⟩
  | .hbm, ⟨10, _⟩ => ⟨S32x64, .f32⟩
  | .hbm, ⟨11, _⟩ => ⟨S64x32, .f32⟩
  | .hbm, ⟨12, _⟩ => ⟨S32x64, .i32⟩
  | .hbm, ⟨13, _⟩ => ⟨S64x32, .i32⟩
  | .hbm, ⟨14, _⟩ => ⟨S64x576, .f32⟩
  | .hbm, ⟨15, _⟩ => ⟨S64x576, .f32⟩
  | .hbm, ⟨16, _⟩ => ⟨S64x1, .i32⟩
  | .local _ .vmem, ⟨0, _⟩ => ⟨S64x2048, .f32⟩
  | .local _ .vmem, ⟨1, _⟩ => ⟨S64x2048, .f32⟩
  | .local _ .vmem, ⟨2, _⟩ => ⟨S64x31232, .f32⟩
  | .local _ .vmem, ⟨3, _⟩ => ⟨S64x31232, .f32⟩
  | .local _ .vmem, ⟨4, _⟩ => ⟨S64x31232, .f32⟩
  | .local _ .vmem, ⟨5, _⟩ => ⟨S64x31232, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x1, .f32⟩
  | .local _ .vmem, ⟨11, _⟩ => ⟨S1x64x1, .f32⟩
  | .local _ .vmem, ⟨12, _⟩ => ⟨S1x64x1, .i32⟩
  | .local _ .vmem, ⟨13, _⟩ => ⟨S1x64x1, .i32⟩
  | .local _ .vmem, ⟨14, _⟩ => ⟨S64x32, .f32⟩
  | .local _ .vmem, ⟨15, _⟩ => ⟨S64x32, .f32⟩
  | .local _ .vmem, ⟨16, _⟩ => ⟨S64x32, .f32⟩
  | .local _ .vmem, ⟨17, _⟩ => ⟨S64x32, .i32⟩
  | .local _ .vmem, ⟨18, _⟩ => ⟨S64x576, .f32⟩
  | .local _ .vmem, ⟨19, _⟩ => ⟨S64x576, .f32⟩
  | .local _ .vmem, ⟨20, _⟩ => ⟨S64x1, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x31232 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x31232 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S64x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x32 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x576 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x576 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S64x1 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== ReferenceIdeal.lean ====
abbrev S64x1000000 : Shape := ⟨2, ![64, 1000000]⟩
abbrev S_ : Shape := ⟨0, ![]⟩
abbrev S64 : Shape := ⟨1, ![64]⟩
abbrev S64x1 : Shape := ⟨2, ![64, 1]⟩
abbrev S1 : Shape := ⟨1, ![1]⟩
abbrev S2 : Shape := ⟨1, ![2]⟩

abbrev nBuf : Space → Nat
  | .hbm => 293
  | .vmem => 0
  | .smem => 0
  | _ => 0

abbrev hbmTy0_0 (i : Nat) : BufTy := match i % 128 with
  | 0 => ⟨S64x1000000, .f32⟩
  | 1 => ⟨S_, .f32⟩
  | 2 => ⟨S64x1000000, .f32⟩
  | 3 => ⟨S64x1000000, .f32⟩
  | 4 => ⟨S_, .f32⟩
  | 5 => ⟨S64, .f32⟩
  | 6 => ⟨S64x1, .f32⟩
  | 7 => ⟨S64x1000000, .f32⟩
  | 8 => ⟨S64x1000000, .f32⟩
  | 9 => ⟨S_, .f32⟩
  | 10 => ⟨S64x1000000, .f32⟩
  | 11 => ⟨S64x1000000, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S1, .i32⟩
  | 23 => ⟨S_, .i32⟩
  | 24 => ⟨S1, .i32⟩
  | 25 => ⟨S_, .i32⟩
  | 26 => ⟨S64x1000000, .i64⟩
  | 27 => ⟨S64x1000000, .i64⟩
  | 28 => ⟨S_, .i64⟩
  | 29 => ⟨S64x1000000, .i64⟩
  | 30 => ⟨S64x1000000, .i64⟩
  | 31 => ⟨S_, .i64⟩
  | 32 => ⟨S64x1000000, .i64⟩
  | 33 => ⟨S64x1000000, .i64⟩
  | 34 => ⟨S64x1000000, .i64⟩
  | 35 => ⟨S_, .i64⟩
  | 36 => ⟨S64x1000000, .i64⟩
  | 37 => ⟨S64x1000000, .i64⟩
  | 38 => ⟨S64x1000000, .i32⟩
  | 39 => ⟨S64x1000000, .i32⟩
  | 40 => ⟨S_, .i32⟩
  | 41 => ⟨S_, .i32⟩
  | 42 => ⟨S_, .i32⟩
  | 43 => ⟨S64x1000000, .i32⟩
  | 44 => ⟨S64x1000000, .i32⟩
  | 45 => ⟨S64x1000000, .i32⟩
  | 46 => ⟨S64x1000000, .i32⟩
  | 47 => ⟨S64x1000000, .i32⟩
  | 48 => ⟨S_, .i32⟩
  | 49 => ⟨S64x1000000, .i32⟩
  | 50 => ⟨S64x1000000, .i32⟩
  | 51 => ⟨S_, .i32⟩
  | 52 => ⟨S64x1000000, .i32⟩
  | 53 => ⟨S64x1000000, .i32⟩
  | 54 => ⟨S64x1000000, .i32⟩
  | 55 => ⟨S64x1000000, .i32⟩
  | 56 => ⟨S64x1000000, .i32⟩
  | 57 => ⟨S_, .i32⟩
  | 58 => ⟨S64x1000000, .i32⟩
  | 59 => ⟨S64x1000000, .i32⟩
  | 60 => ⟨S_, .i32⟩
  | 61 => ⟨S64x1000000, .i32⟩
  | 62 => ⟨S64x1000000, .i32⟩
  | 63 => ⟨S64x1000000, .i32⟩
  | 64 => ⟨S64x1000000, .i32⟩
  | 65 => ⟨S64x1000000, .i32⟩
  | 66 => ⟨S_, .i32⟩
  | 67 => ⟨S64x1000000, .i32⟩
  | 68 => ⟨S64x1000000, .i32⟩
  | 69 => ⟨S_, .i32⟩
  | 70 => ⟨S64x1000000, .i32⟩
  | 71 => ⟨S64x1000000, .i32⟩
  | 72 => ⟨S64x1000000, .i32⟩
  | 73 => ⟨S64x1000000, .i32⟩
  | 74 => ⟨S64x1000000, .i32⟩
  | 75 => ⟨S_, .i32⟩
  | 76 => ⟨S64x1000000, .i32⟩
  | 77 => ⟨S64x1000000, .i32⟩
  | 78 => ⟨S_, .i32⟩
  | 79 => ⟨S64x1000000, .i32⟩
  | 80 => ⟨S64x1000000, .i32⟩
  | 81 => ⟨S64x1000000, .i32⟩
  | 82 => ⟨S64x1000000, .i32⟩
  | 83 => ⟨S64x1000000, .i32⟩
  | 84 => ⟨S64x1000000, .i32⟩
  | 85 => ⟨S64x1000000, .i32⟩
  | 86 => ⟨S64x1000000, .i32⟩
  | 87 => ⟨S_, .i32⟩
  | 88 => ⟨S64x1000000, .i32⟩
  | 89 => ⟨S64x1000000, .i32⟩
  | 90 => ⟨S64x1000000, .i32⟩
  | 91 => ⟨S_, .i32⟩
  | 92 => ⟨S64x1000000, .i32⟩
  | 93 => ⟨S64x1000000, .i32⟩
  | 94 => ⟨S_, .i32⟩
  | 95 => ⟨S64x1000000, .i32⟩
  | 96 => ⟨S64x1000000, .i32⟩
  | 97 => ⟨S64x1000000, .i32⟩
  | 98 => ⟨S64x1000000, .i32⟩
  | 99 => ⟨S64x1000000, .i32⟩
  | 100 => ⟨S_, .i32⟩
  | 101 => ⟨S64x1000000, .i32⟩
  | 102 => ⟨S64x1000000, .i32⟩
  | 103 => ⟨S_, .i32⟩
  | 104 => ⟨S64x1000000, .i32⟩
  | 105 => ⟨S64x1000000, .i32⟩
  | 106 => ⟨S64x1000000, .i32⟩
  | 107 => ⟨S64x1000000, .i32⟩
  | 108 => ⟨S64x1000000, .i32⟩
  | 109 => ⟨S_, .i32⟩
  | 110 => ⟨S64x1000000, .i32⟩
  | 111 => ⟨S64x1000000, .i32⟩
  | 112 => ⟨S_, .i32⟩
  | 113 => ⟨S64x1000000, .i32⟩
  | 114 => ⟨S64x1000000, .i32⟩
  | 115 => ⟨S64x1000000, .i32⟩
  | 116 => ⟨S64x1000000, .i32⟩
  | 117 => ⟨S64x1000000, .i32⟩
  | 118 => ⟨S_, .i32⟩
  | 119 => ⟨S64x1000000, .i32⟩
  | 120 => ⟨S64x1000000, .i32⟩
  | 121 => ⟨S_, .i32⟩
  | 122 => ⟨S64x1000000, .i32⟩
  | 123 => ⟨S64x1000000, .i32⟩
  | 124 => ⟨S64x1000000, .i32⟩
  | 125 => ⟨S64x1000000, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S64x1000000, .i32⟩
  | 2 => ⟨S_, .i32⟩
  | 3 => ⟨S64x1000000, .i32⟩
  | 4 => ⟨S64x1000000, .i32⟩
  | 5 => ⟨S64x1000000, .i32⟩
  | 6 => ⟨S_, .i32⟩
  | 7 => ⟨S64x1000000, .i32⟩
  | 8 => ⟨S64x1000000, .i32⟩
  | 9 => ⟨S_, .i32⟩
  | 10 => ⟨S64x1000000, .i32⟩
  | 11 => ⟨S64x1000000, .i32⟩
  | 12 => ⟨S64x1000000, .i32⟩
  | 13 => ⟨S64x1000000, .i32⟩
  | 14 => ⟨S64x1000000, .i32⟩
  | 15 => ⟨S_, .i32⟩
  | 16 => ⟨S64x1000000, .i32⟩
  | 17 => ⟨S64x1000000, .i32⟩
  | 18 => ⟨S_, .i32⟩
  | 19 => ⟨S64x1000000, .i32⟩
  | 20 => ⟨S64x1000000, .i32⟩
  | 21 => ⟨S64x1000000, .i32⟩
  | 22 => ⟨S64x1000000, .i32⟩
  | 23 => ⟨S64x1000000, .i32⟩
  | 24 => ⟨S_, .i32⟩
  | 25 => ⟨S64x1000000, .i32⟩
  | 26 => ⟨S64x1000000, .i32⟩
  | 27 => ⟨S_, .i32⟩
  | 28 => ⟨S64x1000000, .i32⟩
  | 29 => ⟨S64x1000000, .i32⟩
  | 30 => ⟨S64x1000000, .i32⟩
  | 31 => ⟨S64x1000000, .i32⟩
  | 32 => ⟨S64x1000000, .i32⟩
  | 33 => ⟨S_, .i32⟩
  | 34 => ⟨S64x1000000, .i32⟩
  | 35 => ⟨S64x1000000, .i32⟩
  | 36 => ⟨S_, .i32⟩
  | 37 => ⟨S64x1000000, .i32⟩
  | 38 => ⟨S64x1000000, .i32⟩
  | 39 => ⟨S64x1000000, .i32⟩
  | 40 => ⟨S64x1000000, .i32⟩
  | 41 => ⟨S64x1000000, .i32⟩
  | 42 => ⟨S64x1000000, .i32⟩
  | 43 => ⟨S64x1000000, .i32⟩
  | 44 => ⟨S64x1000000, .i32⟩
  | 45 => ⟨S_, .i32⟩
  | 46 => ⟨S64x1000000, .i32⟩
  | 47 => ⟨S64x1000000, .i32⟩
  | 48 => ⟨S64x1000000, .i32⟩
  | 49 => ⟨S_, .i32⟩
  | 50 => ⟨S64x1000000, .i32⟩
  | 51 => ⟨S64x1000000, .i32⟩
  | 52 => ⟨S_, .i32⟩
  | 53 => ⟨S64x1000000, .i32⟩
  | 54 => ⟨S64x1000000, .i32⟩
  | 55 => ⟨S64x1000000, .i32⟩
  | 56 => ⟨S64x1000000, .i32⟩
  | 57 => ⟨S64x1000000, .i32⟩
  | 58 => ⟨S_, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S64x1000000, .i32⟩
  | 65 => ⟨S64x1000000, .i32⟩
  | 66 => ⟨S64x1000000, .i32⟩
  | 67 => ⟨S_, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S64x1000000, .i32⟩
  | 74 => ⟨S64x1000000, .i32⟩
  | 75 => ⟨S64x1000000, .i32⟩
  | 76 => ⟨S_, .i32⟩
  | 77 => ⟨S64x1000000, .i32⟩
  | 78 => ⟨S64x1000000, .i32⟩
  | 79 => ⟨S_, .i32⟩
  | 80 => ⟨S64x1000000, .i32⟩
  | 81 => ⟨S64x1000000, .i32⟩
  | 82 => ⟨S64x1000000, .i32⟩
  | 83 => ⟨S64x1000000, .i32⟩
  | 84 => ⟨S64x1000000, .i32⟩
  | 85 => ⟨S64x1000000, .i32⟩
  | 86 => ⟨S64x1000000, .i32⟩
  | 87 => ⟨S64x1000000, .i32⟩
  | 88 => ⟨S_, .i32⟩
  | 89 => ⟨S64x1000000, .i32⟩
  | 90 => ⟨S64x1000000, .i32⟩
  | 91 => ⟨S64x1000000, .i32⟩
  | 92 => ⟨S_, .i32⟩
  | 93 => ⟨S64x1000000, .i32⟩
  | 94 => ⟨S64x1000000, .i32⟩
  | 95 => ⟨S_, .i32⟩
  | 96 => ⟨S64x1000000, .i32⟩
  | 97 => ⟨S64x1000000, .i32⟩
  | 98 => ⟨S64x1000000, .i32⟩
  | 99 => ⟨S64x1000000, .i32⟩
  | 100 => ⟨S64x1000000, .i32⟩
  | 101 => ⟨S_, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S64x1000000, .i32⟩
  | 108 => ⟨S64x1000000, .i32⟩
  | 109 => ⟨S64x1000000, .i32⟩
  | 110 => ⟨S_, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S64x1000000, .i32⟩
  | 117 => ⟨S64x1000000, .i32⟩
  | 118 => ⟨S64x1000000, .i32⟩
  | 119 => ⟨S_, .i32⟩
  | 120 => ⟨S64x1000000, .i32⟩
  | 121 => ⟨S64x1000000, .i32⟩
  | 122 => ⟨S_, .i32⟩
  | 123 => ⟨S64x1000000, .i32⟩
  | 124 => ⟨S64x1000000, .i32⟩
  | 125 => ⟨S64x1000000, .i32⟩
  | 126 => ⟨S64x1000000, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S64x1000000, .i32⟩
  | 3 => ⟨S_, .i32⟩
  | 4 => ⟨S64x1000000, .i32⟩
  | 5 => ⟨S64x1000000, .i32⟩
  | 6 => ⟨S64x1000000, .i32⟩
  | 7 => ⟨S_, .i32⟩
  | 8 => ⟨S64x1000000, .i32⟩
  | 9 => ⟨S64x1000000, .i32⟩
  | 10 => ⟨S_, .i32⟩
  | 11 => ⟨S64x1000000, .i32⟩
  | 12 => ⟨S64x1000000, .i32⟩
  | 13 => ⟨S64x1000000, .f32⟩
  | 14 => ⟨S_, .f32⟩
  | 15 => ⟨S64x1000000, .f32⟩
  | 16 => ⟨S64x1000000, .f32⟩
  | 17 => ⟨S_, .f32⟩
  | 18 => ⟨S64x1000000, .f32⟩
  | 19 => ⟨S64x1000000, .f32⟩
  | 20 => ⟨S_, .f32⟩
  | 21 => ⟨S64x1000000, .f32⟩
  | 22 => ⟨S64x1000000, .f32⟩
  | 23 => ⟨S_, .f32⟩
  | 24 => ⟨S64x1000000, .f32⟩
  | 25 => ⟨S64x1000000, .f32⟩
  | 26 => ⟨S64x1000000, .f32⟩
  | 27 => ⟨S64x1000000, .f32⟩
  | 28 => ⟨S64x1000000, .f32⟩
  | 29 => ⟨S64x1000000, .f32⟩
  | 30 => ⟨S64x1000000, .f32⟩
  | 31 => ⟨S64x1000000, .i32⟩
  | 32 => ⟨S_, .f32⟩
  | 33 => ⟨S_, .i32⟩
  | 34 => ⟨S64, .f32⟩
  | 35 => ⟨S64, .i32⟩
  | 36 => ⟨S64x1, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_c_0 : Ref sig .tc := ⟨.hbm, 48, rfl⟩
abbrev main_call0_v7 : Ref sig .tc := ⟨.hbm, 49, rfl⟩
abbrev main_call0_v8 : Ref sig .tc := ⟨.hbm, 50, rfl⟩
abbrev main_call0_c_1 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_c_2 : Ref sig .tc := ⟨.hbm, 57, rfl⟩
abbrev main_call0_v14 : Ref sig .tc := ⟨.hbm, 58, rfl⟩
abbrev main_call0_v15 : Ref sig .tc := ⟨.hbm, 59, rfl⟩
abbrev main_call0_c_3 : Ref sig .tc := ⟨.hbm, 60, rfl⟩
abbrev main_call0_v16 : Ref sig .tc := ⟨.hbm, 61, rfl⟩
abbrev main_call0_v17 : Ref sig .tc := ⟨.hbm, 62, rfl⟩
abbrev main_call0_v18 : Ref sig .tc := ⟨.hbm, 63, rfl⟩
abbrev main_call0_v19 : Ref sig .tc := ⟨.hbm, 64, rfl⟩
abbrev main_call0_v20 : Ref sig .tc := ⟨.hbm, 65, rfl⟩
abbrev main_call0_c_4 : Ref sig .tc := ⟨.hbm, 66, rfl⟩
abbrev main_call0_v21 : Ref sig .tc := ⟨.hbm, 67, rfl⟩
abbrev main_call0_v22 : Ref sig .tc := ⟨.hbm, 68, rfl⟩
abbrev main_call0_c_5 : Ref sig .tc := ⟨.hbm, 69, rfl⟩
abbrev main_call0_v23 : Ref sig .tc := ⟨.hbm, 70, rfl⟩
abbrev main_call0_v24 : Ref sig .tc := ⟨.hbm, 71, rfl⟩
abbrev main_call0_v25 : Ref sig .tc := ⟨.hbm, 72, rfl⟩
abbrev main_call0_v26 : Ref sig .tc := ⟨.hbm, 73, rfl⟩
abbrev main_call0_v27 : Ref sig .tc := ⟨.hbm, 74, rfl⟩
abbrev main_call0_c_6 : Ref sig .tc := ⟨.hbm, 75, rfl⟩
abbrev main_call0_v28 : Ref sig .tc := ⟨.hbm, 76, rfl⟩
abbrev main_call0_v29 : Ref sig .tc := ⟨.hbm, 77, rfl⟩
abbrev main_call0_c_7 : Ref sig .tc := ⟨.hbm, 78, rfl⟩
abbrev main_call0_v30 : Ref sig .tc := ⟨.hbm, 79, rfl⟩
abbrev main_call0_v31 : Ref sig .tc := ⟨.hbm, 80, rfl⟩
abbrev main_call0_v32 : Ref sig .tc := ⟨.hbm, 81, rfl⟩
abbrev main_call0_v33 : Ref sig .tc := ⟨.hbm, 82, rfl⟩
abbrev main_call0_v34 : Ref sig .tc := ⟨.hbm, 83, rfl⟩
abbrev main_call0_v35 : Ref sig .tc := ⟨.hbm, 84, rfl⟩
abbrev main_call0_v36 : Ref sig .tc := ⟨.hbm, 85, rfl⟩
abbrev main_call0_v37 : Ref sig .tc := ⟨.hbm, 86, rfl⟩
abbrev main_call0_c_8 : Ref sig .tc := ⟨.hbm, 87, rfl⟩
abbrev main_call0_v38 : Ref sig .tc := ⟨.hbm, 88, rfl⟩
abbrev main_call0_v39 : Ref sig .tc := ⟨.hbm, 89, rfl⟩
abbrev main_call0_v40 : Ref sig .tc := ⟨.hbm, 90, rfl⟩
abbrev main_call0_c_9 : Ref sig .tc := ⟨.hbm, 91, rfl⟩
abbrev main_call0_v41 : Ref sig .tc := ⟨.hbm, 92, rfl⟩
abbrev main_call0_v42 : Ref sig .tc := ⟨.hbm, 93, rfl⟩
abbrev main_call0_c_10 : Ref sig .tc := ⟨.hbm, 94, rfl⟩
abbrev main_call0_v43 : Ref sig .tc := ⟨.hbm, 95, rfl⟩
abbrev main_call0_v44 : Ref sig .tc := ⟨.hbm, 96, rfl⟩
abbrev main_call0_v45 : Ref sig .tc := ⟨.hbm, 97, rfl⟩
abbrev main_call0_v46 : Ref sig .tc := ⟨.hbm, 98, rfl⟩
abbrev main_call0_v47 : Ref sig .tc := ⟨.hbm, 99, rfl⟩
abbrev main_call0_c_11 : Ref sig .tc := ⟨.hbm, 100, rfl⟩
abbrev main_call0_v48 : Ref sig .tc := ⟨.hbm, 101, rfl⟩
abbrev main_call0_v49 : Ref sig .tc := ⟨.hbm, 102, rfl⟩
abbrev main_call0_c_12 : Ref sig .tc := ⟨.hbm, 103, rfl⟩
abbrev main_call0_v50 : Ref sig .tc := ⟨.hbm, 104, rfl⟩
abbrev main_call0_v51 : Ref sig .tc := ⟨.hbm, 105, rfl⟩
abbrev main_call0_v52 : Ref sig .tc := ⟨.hbm, 106, rfl⟩
abbrev main_call0_v53 : Ref sig .tc := ⟨.hbm, 107, rfl⟩
abbrev main_call0_v54 : Ref sig .tc := ⟨.hbm, 108, rfl⟩
abbrev main_call0_c_13 : Ref sig .tc := ⟨.hbm, 109, rfl⟩
abbrev main_call0_v55 : Ref sig .tc := ⟨.hbm, 110, rfl⟩
abbrev main_call0_v56 : Ref sig .tc := ⟨.hbm, 111, rfl⟩
abbrev main_call0_c_14 : Ref sig .tc := ⟨.hbm, 112, rfl⟩
abbrev main_call0_v57 : Ref sig .tc := ⟨.hbm, 113, rfl⟩
abbrev main_call0_v58 : Ref sig .tc := ⟨.hbm, 114, rfl⟩
abbrev main_call0_v59 : Ref sig .tc := ⟨.hbm, 115, rfl⟩
abbrev main_call0_v60 : Ref sig .tc := ⟨.hbm, 116, rfl⟩
abbrev main_call0_v61 : Ref sig .tc := ⟨.hbm, 117, rfl⟩
abbrev main_call0_c_15 : Ref sig .tc := ⟨.hbm, 118, rfl⟩
abbrev main_call0_v62 : Ref sig .tc := ⟨.hbm, 119, rfl⟩
abbrev main_call0_v63 : Ref sig .tc := ⟨.hbm, 120, rfl⟩
abbrev main_call0_c_16 : Ref sig .tc := ⟨.hbm, 121, rfl⟩
abbrev main_call0_v64 : Ref sig .tc := ⟨.hbm, 122, rfl⟩
abbrev main_call0_v65 : Ref sig .tc := ⟨.hbm, 123, rfl⟩
abbrev main_call0_v66 : Ref sig .tc := ⟨.hbm, 124, rfl⟩
abbrev main_call0_v67 : Ref sig .tc := ⟨.hbm, 125, rfl⟩
abbrev main_call0_v68 : Ref sig .tc := ⟨.hbm, 126, rfl⟩
abbrev main_call0_v69 : Ref sig .tc := ⟨.hbm, 127, rfl⟩
abbrev main_call0_v70 : Ref sig .tc := ⟨.hbm, 128, rfl⟩
abbrev main_call0_v71 : Ref sig .tc := ⟨.hbm, 129, rfl⟩
abbrev main_call0_c_17 : Ref sig .tc := ⟨.hbm, 130, rfl⟩
abbrev main_call0_v72 : Ref sig .tc := ⟨.hbm, 131, rfl⟩
abbrev main_call0_v73 : Ref sig .tc := ⟨.hbm, 132, rfl⟩
abbrev main_call0_v74 : Ref sig .tc := ⟨.hbm, 133, rfl⟩
abbrev main_call0_c_18 : Ref sig .tc := ⟨.hbm, 134, rfl⟩
abbrev main_call0_v75 : Ref sig .tc := ⟨.hbm, 135, rfl⟩
abbrev main_call0_v76 : Ref sig .tc := ⟨.hbm, 136, rfl⟩
abbrev main_call0_c_19 : Ref sig .tc := ⟨.hbm, 137, rfl⟩
abbrev main_call0_v77 : Ref sig .tc := ⟨.hbm, 138, rfl⟩
abbrev main_call0_v78 : Ref sig .tc := ⟨.hbm, 139, rfl⟩
abbrev main_call0_v79 : Ref sig .tc := ⟨.hbm, 140, rfl⟩
abbrev main_call0_v80 : Ref sig .tc := ⟨.hbm, 141, rfl⟩
abbrev main_call0_v81 : Ref sig .tc := ⟨.hbm, 142, rfl⟩
abbrev main_call0_c_20 : Ref sig .tc := ⟨.hbm, 143, rfl⟩
abbrev main_call0_v82 : Ref sig .tc := ⟨.hbm, 144, rfl⟩
abbrev main_call0_v83 : Ref sig .tc := ⟨.hbm, 145, rfl⟩
abbrev main_call0_c_21 : Ref sig .tc := ⟨.hbm, 146, rfl⟩
abbrev main_call0_v84 : Ref sig .tc := ⟨.hbm, 147, rfl⟩
abbrev main_call0_v85 : Ref sig .tc := ⟨.hbm, 148, rfl⟩
abbrev main_call0_v86 : Ref sig .tc := ⟨.hbm, 149, rfl⟩
abbrev main_call0_v87 : Ref sig .tc := ⟨.hbm, 150, rfl⟩
abbrev main_call0_v88 : Ref sig .tc := ⟨.hbm, 151, rfl⟩
abbrev main_call0_c_22 : Ref sig .tc := ⟨.hbm, 152, rfl⟩
abbrev main_call0_v89 : Ref sig .tc := ⟨.hbm, 153, rfl⟩
abbrev main_call0_v90 : Ref sig .tc := ⟨.hbm, 154, rfl⟩
abbrev main_call0_c_23 : Ref sig .tc := ⟨.hbm, 155, rfl⟩
abbrev main_call0_v91 : Ref sig .tc := ⟨.hbm, 156, rfl⟩
abbrev main_call0_v92 : Ref sig .tc := ⟨.hbm, 157, rfl⟩
abbrev main_call0_v93 : Ref sig .tc := ⟨.hbm, 158, rfl⟩
abbrev main_call0_v94 : Ref sig .tc := ⟨.hbm, 159, rfl⟩
abbrev main_call0_v95 : Ref sig .tc := ⟨.hbm, 160, rfl⟩
abbrev main_call0_c_24 : Ref sig .tc := ⟨.hbm, 161, rfl⟩
abbrev main_call0_v96 : Ref sig .tc := ⟨.hbm, 162, rfl⟩
abbrev main_call0_v97 : Ref sig .tc := ⟨.hbm, 163, rfl⟩
abbrev main_call0_c_25 : Ref sig .tc := ⟨.hbm, 164, rfl⟩
abbrev main_call0_v98 : Ref sig .tc := ⟨.hbm, 165, rfl⟩
abbrev main_call0_v99 : Ref sig .tc := ⟨.hbm, 166, rfl⟩
abbrev main_call0_v100 : Ref sig .tc := ⟨.hbm, 167, rfl⟩
abbrev main_call0_v101 : Ref sig .tc := ⟨.hbm, 168, rfl⟩
abbrev main_call0_v102 : Ref sig .tc := ⟨.hbm, 169, rfl⟩
abbrev main_call0_v103 : Ref sig .tc := ⟨.hbm, 170, rfl⟩
abbrev main_call0_v104 : Ref sig .tc := ⟨.hbm, 171, rfl⟩
abbrev main_call0_v105 : Ref sig .tc := ⟨.hbm, 172, rfl⟩
abbrev main_call0_c_26 : Ref sig .tc := ⟨.hbm, 173, rfl⟩
abbrev main_call0_v106 : Ref sig .tc := ⟨.hbm, 174, rfl⟩
abbrev main_call0_v107 : Ref sig .tc := ⟨.hbm, 175, rfl⟩
abbrev main_call0_v108 : Ref sig .tc := ⟨.hbm, 176, rfl⟩
abbrev main_call0_c_27 : Ref sig .tc := ⟨.hbm, 177, rfl⟩
abbrev main_call0_v109 : Ref sig .tc := ⟨.hbm, 178, rfl⟩
abbrev main_call0_v110 : Ref sig .tc := ⟨.hbm, 179, rfl⟩
abbrev main_call0_c_28 : Ref sig .tc := ⟨.hbm, 180, rfl⟩
abbrev main_call0_v111 : Ref sig .tc := ⟨.hbm, 181, rfl⟩
abbrev main_call0_v112 : Ref sig .tc := ⟨.hbm, 182, rfl⟩
abbrev main_call0_v113 : Ref sig .tc := ⟨.hbm, 183, rfl⟩
abbrev main_call0_v114 : Ref sig .tc := ⟨.hbm, 184, rfl⟩
abbrev main_call0_v115 : Ref sig .tc := ⟨.hbm, 185, rfl⟩
abbrev main_call0_c_29 : Ref sig .tc := ⟨.hbm, 186, rfl⟩
abbrev main_call0_v116 : Ref sig .tc := ⟨.hbm, 187, rfl⟩
abbrev main_call0_v117 : Ref sig .tc := ⟨.hbm, 188, rfl⟩
abbrev main_call0_c_30 : Ref sig .tc := ⟨.hbm, 189, rfl⟩
abbrev main_call0_v118 : Ref sig .tc := ⟨.hbm, 190, rfl⟩
abbrev main_call0_v119 : Ref sig .tc := ⟨.hbm, 191, rfl⟩
abbrev main_call0_v120 : Ref sig .tc := ⟨.hbm, 192, rfl⟩
abbrev main_call0_v121 : Ref sig .tc := ⟨.hbm, 193, rfl⟩
abbrev main_call0_v122 : Ref sig .tc := ⟨.hbm, 194, rfl⟩
abbrev main_call0_c_31 : Ref sig .tc := ⟨.hbm, 195, rfl⟩
abbrev main_call0_v123 : Ref sig .tc := ⟨.hbm, 196, rfl⟩
abbrev main_call0_v124 : Ref sig .tc := ⟨.hbm, 197, rfl⟩
abbrev main_call0_c_32 : Ref sig .tc := ⟨.hbm, 198, rfl⟩
abbrev main_call0_v125 : Ref sig .tc := ⟨.hbm, 199, rfl⟩
abbrev main_call0_v126 : Ref sig .tc := ⟨.hbm, 200, rfl⟩
abbrev main_call0_v127 : Ref sig .tc := ⟨.hbm, 201, rfl⟩
abbrev main_call0_v128 : Ref sig .tc := ⟨.hbm, 202, rfl⟩
abbrev main_call0_v129 : Ref sig .tc := ⟨.hbm, 203, rfl⟩
abbrev main_call0_c_33 : Ref sig .tc := ⟨.hbm, 204, rfl⟩
abbrev main_call0_v130 : Ref sig .tc := ⟨.hbm, 205, rfl⟩
abbrev main_call0_v131 : Ref sig .tc := ⟨.hbm, 206, rfl⟩
abbrev main_call0_c_34 : Ref sig .tc := ⟨.hbm, 207, rfl⟩
abbrev main_call0_v132 : Ref sig .tc := ⟨.hbm, 208, rfl⟩
abbrev main_call0_v133 : Ref sig .tc := ⟨.hbm, 209, rfl⟩
abbrev main_call0_v134 : Ref sig .tc := ⟨.hbm, 210, rfl⟩
abbrev main_call0_v135 : Ref sig .tc := ⟨.hbm, 211, rfl⟩
abbrev main_call0_v136 : Ref sig .tc := ⟨.hbm, 212, rfl⟩
abbrev main_call0_v137 : Ref sig .tc := ⟨.hbm, 213, rfl⟩
abbrev main_call0_v138 : Ref sig .tc := ⟨.hbm, 214, rfl⟩
abbrev main_call0_v139 : Ref sig .tc := ⟨.hbm, 215, rfl⟩
abbrev main_call0_c_35 : Ref sig .tc := ⟨.hbm, 216, rfl⟩
abbrev main_call0_v140 : Ref sig .tc := ⟨.hbm, 217, rfl⟩
abbrev main_call0_v141 : Ref sig .tc := ⟨.hbm, 218, rfl⟩
abbrev main_call0_v142 : Ref sig .tc := ⟨.hbm, 219, rfl⟩
abbrev main_call0_c_36 : Ref sig .tc := ⟨.hbm, 220, rfl⟩
abbrev main_call0_v143 : Ref sig .tc := ⟨.hbm, 221, rfl⟩
abbrev main_call0_v144 : Ref sig .tc := ⟨.hbm, 222, rfl⟩
abbrev main_call0_c_37 : Ref sig .tc := ⟨.hbm, 223, rfl⟩
abbrev main_call0_v145 : Ref sig .tc := ⟨.hbm, 224, rfl⟩
abbrev main_call0_v146 : Ref sig .tc := ⟨.hbm, 225, rfl⟩
abbrev main_call0_v147 : Ref sig .tc := ⟨.hbm, 226, rfl⟩
abbrev main_call0_v148 : Ref sig .tc := ⟨.hbm, 227, rfl⟩
abbrev main_call0_v149 : Ref sig .tc := ⟨.hbm, 228, rfl⟩
abbrev main_call0_c_38 : Ref sig .tc := ⟨.hbm, 229, rfl⟩
abbrev main_call0_v150 : Ref sig .tc := ⟨.hbm, 230, rfl⟩
abbrev main_call0_v151 : Ref sig .tc := ⟨.hbm, 231, rfl⟩
abbrev main_call0_c_39 : Ref sig .tc := ⟨.hbm, 232, rfl⟩
abbrev main_call0_v152 : Ref sig .tc := ⟨.hbm, 233, rfl⟩
abbrev main_call0_v153 : Ref sig .tc := ⟨.hbm, 234, rfl⟩
abbrev main_call0_v154 : Ref sig .tc := ⟨.hbm, 235, rfl⟩
abbrev main_call0_v155 : Ref sig .tc := ⟨.hbm, 236, rfl⟩
abbrev main_call0_v156 : Ref sig .tc := ⟨.hbm, 237, rfl⟩
abbrev main_call0_c_40 : Ref sig .tc := ⟨.hbm, 238, rfl⟩
abbrev main_call0_v157 : Ref sig .tc := ⟨.hbm, 239, rfl⟩
abbrev main_call0_v158 : Ref sig .tc := ⟨.hbm, 240, rfl⟩
abbrev main_call0_c_41 : Ref sig .tc := ⟨.hbm, 241, rfl⟩
abbrev main_call0_v159 : Ref sig .tc := ⟨.hbm, 242, rfl⟩
abbrev main_call0_v160 : Ref sig .tc := ⟨.hbm, 243, rfl⟩
abbrev main_call0_v161 : Ref sig .tc := ⟨.hbm, 244, rfl⟩
abbrev main_call0_v162 : Ref sig .tc := ⟨.hbm, 245, rfl⟩
abbrev main_call0_v163 : Ref sig .tc := ⟨.hbm, 246, rfl⟩
abbrev main_call0_c_42 : Ref sig .tc := ⟨.hbm, 247, rfl⟩
abbrev main_call0_v164 : Ref sig .tc := ⟨.hbm, 248, rfl⟩
abbrev main_call0_v165 : Ref sig .tc := ⟨.hbm, 249, rfl⟩
abbrev main_call0_c_43 : Ref sig .tc := ⟨.hbm, 250, rfl⟩
abbrev main_call0_v166 : Ref sig .tc := ⟨.hbm, 251, rfl⟩
abbrev main_call0_v167 : Ref sig .tc := ⟨.hbm, 252, rfl⟩
abbrev main_call0_v168 : Ref sig .tc := ⟨.hbm, 253, rfl⟩
abbrev main_call0_v169 : Ref sig .tc := ⟨.hbm, 254, rfl⟩
abbrev main_call0_v170 : Ref sig .tc := ⟨.hbm, 255, rfl⟩
abbrev main_v30_0 : Ref sig .tc := ⟨.hbm, 256, rfl⟩
abbrev main_call0_v172 : Ref sig .tc := ⟨.hbm, 257, rfl⟩
abbrev main_call0_v173 : Ref sig .tc := ⟨.hbm, 258, rfl⟩
abbrev main_call0_c_44 : Ref sig .tc := ⟨.hbm, 259, rfl⟩
abbrev main_call0_v174 : Ref sig .tc := ⟨.hbm, 260, rfl⟩
abbrev main_v30_1 : Ref sig .tc := ⟨.hbm, 261, rfl⟩
abbrev main_v31 : Ref sig .tc := ⟨.hbm, 262, rfl⟩
abbrev main_c_7 : Ref sig .tc := ⟨.hbm, 263, rfl⟩
abbrev main_v32 : Ref sig .tc := ⟨.hbm, 264, rfl⟩
abbrev main_v33 : Ref sig .tc := ⟨.hbm, 265, rfl⟩
abbrev main_c_8 : Ref sig .tc := ⟨.hbm, 266, rfl⟩
abbrev main_v34 : Ref sig .tc := ⟨.hbm, 267, rfl⟩
abbrev main_v35 : Ref sig .tc := ⟨.hbm, 268, rfl⟩
abbrev main_v36 : Ref sig .tc := ⟨.hbm, 269, rfl⟩
abbrev main_cst_9 : Ref sig .tc := ⟨.hbm, 270, rfl⟩
abbrev main_v37 : Ref sig .tc := ⟨.hbm, 271, rfl⟩
abbrev main_v38 : Ref sig .tc := ⟨.hbm, 272, rfl⟩
abbrev main_cst_10 : Ref sig .tc := ⟨.hbm, 273, rfl⟩
abbrev main_v39 : Ref sig .tc := ⟨.hbm, 274, rfl⟩
abbrev main_v40 : Ref sig .tc := ⟨.hbm, 275, rfl⟩
abbrev main_cst_11 : Ref sig .tc := ⟨.hbm, 276, rfl⟩
abbrev main_v41 : Ref sig .tc := ⟨.hbm, 277, rfl⟩
abbrev main_v42 : Ref sig .tc := ⟨.hbm, 278, rfl⟩
abbrev main_cst_12 : Ref sig .tc := ⟨.hbm, 279, rfl⟩
abbrev main_v43 : Ref sig .tc := ⟨.hbm, 280, rfl⟩
abbrev main_v44 : Ref sig .tc := ⟨.hbm, 281, rfl⟩
abbrev main_v45 : Ref sig .tc := ⟨.hbm, 282, rfl⟩
abbrev main_v46 : Ref sig .tc := ⟨.hbm, 283, rfl⟩
abbrev main_v47 : Ref sig .tc := ⟨.hbm, 284, rfl⟩
abbrev main_v48 : Ref sig .tc := ⟨.hbm, 285, rfl⟩
abbrev main_v49 : Ref sig .tc := ⟨.hbm, 286, rfl⟩
abbrev main_call1_v0 : Ref sig .tc := ⟨.hbm, 287, rfl⟩
abbrev main_call1_cst : Ref sig .tc := ⟨.hbm, 288, rfl⟩
abbrev main_call1_c : Ref sig .tc := ⟨.hbm, 289, rfl⟩
abbrev main_call1_v1_0 : Ref sig .tc := ⟨.hbm, 290, rfl⟩
abbrev main_v50 : Ref sig .tc := ⟨.hbm, 291, rfl⟩
abbrev main_v51 : Ref sig .tc := ⟨.hbm, 292, rfl⟩

abbrev nD : Nat := 1
abbrev τ : Topo := Topo.v7x

variable {F : FTy → Type} [FloatOps F]
-- ==== Proof.TableRegion.lean ====
/- The table kernel as a region of @main: what its body leaves in the output buffer, and the body run at any grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

-- the stores' rectangles are compared coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__gen_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S64x2048 := Rect.unit (s := S64x2048) ![0, 0] S64x2048.size inb_S64x2048_S64x2048_0_0

/-! ## What the body leaves in each output window's buffer -/

/-! ### Values of the body that the stores' payloads, spelt out, would write more than once

    Each is a vector the body binds (often a part call's result), stated over the input windows' blocks and
    numbered on from the skeleton's payload functions (`k0_pay38` …, after `k0_pay37`), so that
    `out0_W` and the values after it name it instead of spelling it out (`unfold_out out0_W` opens a canon
    with them, `unfold_payloads` opens them with the payloads); the comment after each is the printed function's
    name for the value (a count appended where that name is bound again). -/

def k0_pay38 (i : grid0.Coords)  : IVec S64x2048 32 :=
  k0_pay9 i -- `v40`
def k0_pay39 (i : grid0.Coords)  : IVec S64x2048 32 :=
  k0_pay10 i -- `v41`
def k0_pay40 (i : grid0.Coords)  : IVec S64x2048 32 :=
  k0_pay11 i -- `v43`
def k0_pay41 (i : grid0.Coords)  : IVec S64x2048 32 :=
  k0_pay22 (k0_pay38 i) (k0_pay39 i) (k0_pay40 i) 15#32 -- `v86`
def k0_pay42 (i : grid0.Coords)  : IVec S64x2048 32 :=
  k0_pay23 (k0_pay38 i) (k0_pay39 i) (k0_pay40 i) 15#32 -- `v87`
def k0_pay43 (i : grid0.Coords)  : IVec S64x2048 32 :=
  k0_pay24 (k0_pay38 i) (k0_pay39 i) (k0_pay40 i) 15#32 -- `v89`

/-- Window 0's staging buffer after the body, from the input windows' blocks: its 1 store as pieces, LAST
    FIRST (Lib/Pipeline/FrameBody.lean `View.canon`; the payloads are the skeleton's and the values stated above). -/
def out0_0 (i : grid0.Coords)  : Vec F S64x2048 .f32 :=
  View.canon [⟨r0_0, k0_pay1 (k0_pay37 (F := F) (k0_pay35 (k0_pay41 i) (k0_pay42 i) (k0_pay43 i) 6#32) (k0_pay36 (k0_pay41 i) (k0_pay42 i) (k0_pay43 i) 6#32) 13#32) (Scalar.ofBits .f32 0x00000000#32)⟩]

/-- Its stores tile the buffer (checked by evaluation), so they cover it. -/
theorem cover0_0 (p0 : Vec F S64x2048 .f32) (y : S64x2048.Idx) :
    ∃ pc ∈ ([⟨r0_0, p0⟩] : List (View.Piece (Elt F) S64x2048 .f32)), y ∈ pc.1.set :=
  View.cover_of_tiled [⟨r0_0, p0⟩] S64x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x2048 .f32) (harg1 : arg1.IsWhole)
     (K : PUnit → sProp 𝕄) :
    iprop((∃ d, owns (c : Thread nD τ) arg1 fullShare d)
        ∗ (iprop(owns (c : Thread nD τ) arg1 fullShare (out0_0 i )) -∗ K ⟨⟩))
      ⊢ wp frame (wpE (defs₀ (F := F)) Variants.none c none) E (cc0__gen_kernel i arg1 harg1) K := by
  simp only [cc0__gen_kernel_eq_skeleton]; unfold cc0__gen_kernel_skel
  simp only [k0_part1_eq_skeleton, k0_part2_eq_skeleton, k0_part3_eq_skeleton, k0_part4_eq_skeleton]
  unfold owns
  iintro ⟨⟨%d0, %f0, -, H0⟩, Hk⟩
  sl_exec
  sl_step
  iapply Hk
  iexists _; isplitr
  swap; · iexact H0
  ipureintro
  refine (View.read_writes_eq_canon _ _ _ (cover0_0 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => out0_0 (grid0.coords t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = out0_0 (grid0.coords t)  := by dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0]
  iintro ⟨HΦ, Ho, ⟨%d0, H0⟩⟩
  iapply (sound_kernel0 c Set.univ (grid0.coords t) _ _  _)
  isplitl [H0]; · iexists _; iexact H0
  iintro ⟨H0⟩
  isplitl [HΦ]; · iexact HΦ
  isplitl [Ho]; · iexact Ho
  iexact H0

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.ScanBody.lean ====
/- What the scan kernel's body computes, as vectors: a walk over the 61 chunks of 512 columns of one block that keeps,
   per row and lane, the best score so far with its clamped logit, its noise and its chunk number, and the largest
   clamped logit; then the block's candidate, read off the 512 lanes. Stated at any float interpretation `F`. -/
module

public import proofs.«01_k».proof.Proof.Gen.KernelIdeal.Skeleton
public import Idealize.ShloMosaic.Lib.Pipeline.FrameBody

@[expose] public section

noncomputable section

namespace Cert.KernelIdeal.Scan

open Cert.KernelIdeal Cert.KernelIdeal.Gen Idealize.ShloMosaic Idealize.ShloMosaic.TcCoe

variable {F : FTy → Type} [FloatOps F]

/-- Chunk `k` lies inside the block. -/
theorem chunk_inb (k : Fin 61) : ∀ a, (![0, 512 * k.val] : Fin 2 → ℕ) a + S64x512.size a ≤ S64x31232.size a := by
  have hk := k.isLt
  intro a
  match a with
  | ⟨0, _⟩ => show 0 + 64 ≤ 64; omega
  | ⟨1, _⟩ => show 512 * k.val + 512 ≤ 31232; omega

/-- Chunk `k` of a block: columns `512 k` to `512 k + 511`. -/
abbrev chunk (k : Fin 61) : Rect S64x31232 := Rect.unit (s := S64x31232) ![0, 512 * k.val] S64x512.size (chunk_inb k)

/-- The whole of one output buffer. -/
abbrev whole : Rect S1x64x1 := Rect.unit (s := S1x64x1) ![0, 0, 0] S1x64x1.size inb_S1x64x1_S1x64x1_0_0_0

/-- The clamped logits of chunk `k`. -/
def clamp (x : Vec F S64x31232 .f32) (k : Fin 61) : FVec F S64x512 .f32 :=
  minimumf (View.ld x (chunk k)) (broadcast S64x512 (Scalar.ofBits .f32 0x42200000#32))
/-- The noise of chunk `k`. -/
def noise (g : Vec F S64x31232 .f32) (k : Fin 61) : FVec F S64x512 .f32 :=
  shapeCast S64x512 (View.ld g (chunk k)) shapeCasts_S64x512_S64x512
/-- The scores of chunk `k`: clamped logit plus noise. -/
def score (x g : Vec F S64x31232 .f32) (k : Fin 61) : FVec F S64x512 .f32 := addf (clamp x k) (noise g k)

/-- A vector of minus infinities, where every running value starts. -/
def bottom : FVec F S64x512 .f32 := broadcast S64x512 (Scalar.ofBits .f32 0xFF800000#32)

/-- The best score of each lane over the first `n` chunks. -/
def bestScore (x g : Vec F S64x31232 .f32) : (n : ℕ) → n ≤ 61 → FVec F S64x512 .f32
  | 0, _ => bottom
  | n + 1, h => select (cmpf .ogt (score x g ⟨n, h⟩) (bestScore x g n (by omega))) (score x g ⟨n, h⟩) (bestScore x g n (by omega))
/-- Where chunk `n` beats the best score before it. -/
def beats (x g : Vec F S64x31232 .f32) (n : ℕ) (h : n < 61) : IVec S64x512 1 :=
  cmpf .ogt (score x g ⟨n, h⟩) (bestScore x g n (by omega))
/-- The clamped logit at each lane's best score over the first `n` chunks. -/
def bestLogit (x g : Vec F S64x31232 .f32) : (n : ℕ) → n ≤ 61 → FVec F S64x512 .f32
  | 0, _ => bottom
  | n + 1, h => select (beats x g n h) (clamp x ⟨n, h⟩) (bestLogit x g n (by omega))
/-- The noise at each lane's best score over the first `n` chunks. -/
def bestNoise (x g : Vec F S64x31232 .f32) : (n : ℕ) → n ≤ 61 → FVec F S64x512 .f32
  | 0, _ => bottom
  | n + 1, h => select (beats x g n h) (noise g ⟨n, h⟩) (bestNoise x g n (by omega))
/-- The chunk of each lane's best score over the first `n` chunks. -/
def bestChunk (x g : Vec F S64x31232 .f32) : (n : ℕ) → n ≤ 61 → IVec S64x512 32
  | 0, _ => broadcast S64x512 0#32
  | n + 1, h => select (beats x g n h) (broadcast S64x512 (BitVec.ofNat 32 n)) (bestChunk x g n (by omega))
/-- The largest clamped logit of each lane over the first `n` chunks. -/
def maxLogit (x : Vec F S64x31232 .f32) : (n : ℕ) → n ≤ 61 → FVec F S64x512 .f32
  | 0, _ => bottom
  | n + 1, h => maximumf (maxLogit x n (by omega)) (clamp x ⟨n, h⟩)

/-- The column of each lane's best score, in the whole table: block start plus chunk start plus lane. -/
def column (i : grid1.Coords) (x g : Vec F S64x31232 .f32) : IVec S64x512 32 :=
  addi (addi (broadcast S64x512 (Scalar.muli (BitVec.ofNat 32 (i 0).val) 31232#32)) (muli (bestChunk x g 61 le_rfl) (broadcast S64x512 512#32)))
    (iota .tc S64x512 32 [1] iota_S64x512_d1_w32)
/-- A vector's largest entry of each row. -/
def rowMax (v : FVec F S64x512 .f32) : FVec F S64x1 .f32 :=
  shapeCast S64x1 (multiReduction .maximumf [1] S64 v 0xFF800000#32 reduces_S64x512_S64 (.inl rfl) rfl) shapeCasts_S64_S64x1
/-- The candidate's column: the least column whose score is the row's best. -/
def pickColumn (i : grid1.Coords) (x g : Vec F S64x31232 .f32) : IVec S64x1 32 :=
  shapeCast S64x1 (multiReductionI .minsi [1] S64
      (select (cmpf .oeq (bestScore x g 61 le_rfl) (broadcastTo S64x512 (rowMax (bestScore x g 61 le_rfl)) broadcasts_S64x1_S64x512))
        (column i x g) (broadcast S64x512 2147483647#32))
      2147483647#32 reduces_S64x512_S64 rfl) shapeCasts_S64_S64x1
/-- The lanes whose column is the candidate's. -/
def chosen (i : grid1.Coords) (x g : Vec F S64x31232 .f32) : IVec S64x512 1 :=
  cmpi .eq (column i x g) (broadcastTo S64x512 (pickColumn i x g) broadcasts_S64x1_S64x512)

/-- The four vectors the body stores: the largest clamped logit, the candidate's clamped logit, its noise, its column. -/
def maxOut (x : Vec F S64x31232 .f32) : FVec F S1x64x1 .f32 :=
  shapeCast S1x64x1 (rowMax (maxLogit x 61 le_rfl)) shapeCasts_S64x1_S1x64x1
def logitOut (i : grid1.Coords) (x g : Vec F S64x31232 .f32) : FVec F S1x64x1 .f32 :=
  shapeCast S1x64x1 (rowMax (select (chosen i x g) (bestLogit x g 61 le_rfl) bottom)) shapeCasts_S64x1_S1x64x1
def noiseOut (i : grid1.Coords) (x g : Vec F S64x31232 .f32) : FVec F S1x64x1 .f32 :=
  shapeCast S1x64x1 (rowMax (select (chosen i x g) (bestNoise x g 61 le_rfl) bottom)) shapeCasts_S64x1_S1x64x1
def columnOut (i : grid1.Coords) (x g : Vec F S64x31232 .f32) : IVec S1x64x1 32 :=
  shapeCast S1x64x1 (pickColumn i x g) shapeCasts_S64x1_S1x64x1

end Cert.KernelIdeal.Scan

end
-- ==== Proof.ScanRegion.lean ====
/- The scan kernel as a region of @main: what its body leaves in the output buffers (Proof/ScanBody.lean), and the
   body run at any grid point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.ScanBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

-- the stores' rectangles are compared coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1__scan_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is of the clipped KIND (its block does not tile its array `S64x1000000`), but no block the grid
    reaches is cut, so no part of its staging buffer is left unfilled by a fetch. A default for such a part, which
    nothing reads. -/
def dflt1_0 : (cfg1.win 0).block.Idx → Elt F (cfg1.win 0).elt := fun _ => Classical.choice inferInstance
/-- What input window 0's current staging buffer holds when the body runs at `t`: its block read off the array,
    filled over `dflt1_0` (block-typed, where `iblk1` is typed at the cut). -/
def X1_0 (c : Dev nD) (t : Fin cfg1.N) : (cfg1.win 0).block.Idx → Elt F (cfg1.win 0).elt :=
  (cfg1.win 0).fill (cfg1.grid.coords t) dflt1_0 (iblk1 V c 0 t)
/-- At every point the cut's extent is the block's, decided over the grid: no transfer of input window 0 is cut. -/
theorem xsize1_0 : ∀ t : Fin cfg1.N, ∀ a, (cfg1.win 0).xsize (cfg1.grid.coords t) a = (cfg1.win 0).size a := by decide +kernel
/-- Every index of input window 0's block is moved at every point. -/
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
/-- A fill of input window 0's block covers the whole buffer, whatever it held. -/
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
/-- Input window 0's current staging buffer holds `X1_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_0`). -/
theorem before1_0_of {c : Dev nD} (dat : Dat τ (Elt F) Unit ℕ (UR sig nD τ) ℕ cfg1 c) (hA : dat.A 0 = V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S64x1000000.size a)) (congrFun h a))
      (fun t => by rw [hafter]; unfold X1_0; rw [Pipeline.Window.cut_fill]; unfold Dat.blockOf iblk1; rw [hA]; try rfl) t d).trans
    (by unfold Dat.fetched X1_0; rw [fill1_0 t d dflt1_0]; unfold Dat.blockOf iblk1; rw [hA]; try rfl)
/-- Input window 1 is of the clipped KIND (its block does not tile its array `S64x1000000`), but no block the grid
    reaches is cut, so no part of its staging buffer is left unfilled by a fetch. A default for such a part, which
    nothing reads. -/
def dflt1_1 : (cfg1.win 1).block.Idx → Elt F (cfg1.win 1).elt := fun _ => Classical.choice inferInstance
/-- What input window 1's current staging buffer holds when the body runs at `t`: its block read off the array,
    filled over `dflt1_1` (block-typed, where `iblk1` is typed at the cut). -/
def X1_1 (c : Dev nD) (t : Fin cfg1.N) : (cfg1.win 1).block.Idx → Elt F (cfg1.win 1).elt :=
  (cfg1.win 1).fill (cfg1.grid.coords t) dflt1_1 (iblk1 V c 1 t)
/-- At every point the cut's extent is the block's, decided over the grid: no transfer of input window 1 is cut. -/
theorem xsize1_1 : ∀ t : Fin cfg1.N, ∀ a, (cfg1.win 1).xsize (cfg1.grid.coords t) a = (cfg1.win 1).size a := by decide +kernel
/-- Every index of input window 1's block is moved at every point. -/
theorem moved1_1 (t : Fin cfg1.N) (j : (cfg1.win 1).block.Idx) : (cfg1.win 1).moved (cfg1.grid.coords t) j = true :=
  ((cfg1.win 1).moved_iff _ j).mpr fun a => by rw [xsize1_1 t a]; exact (j a).isLt
/-- A fill of input window 1's block covers the whole buffer, whatever it held. -/
theorem fill1_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved1_1 t j), dif_pos (moved1_1 t j)]
/-- Input window 1's current staging buffer holds `X1_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_1`). -/
theorem before1_1_of {c : Dev nD} (dat : Dat τ (Elt F) Unit ℕ (UR sig nD τ) ℕ cfg1 c) (hA : dat.A 1 = V c (Pipeline.arrRef spec1 1))
    (hafter : ∀ t, dat.after 1 t = X1_1 V c t) (t : Fin cfg1.N) (d) : dat.before 1 t d = X1_1 V c t :=
  (dat.before_in_eq_fetched 1 rfl (fun _ => rfl)
      (fun t t' h => funext fun a => congrArg (fun n => Pipeline.Clip.of n ((cfg1.win 1).size a) (S64x1000000.size a)) (congrFun h a))
      (fun t => by rw [hafter]; unfold X1_1; rw [Pipeline.Window.cut_fill]; unfold Dat.blockOf iblk1; rw [hA]; try rfl) t d).trans
    (by unfold Dat.fetched X1_1; rw [fill1_1 t d dflt1_1]; unfold Dat.blockOf iblk1; rw [hA]; try rfl)

/-! ## What the body leaves in each output window's buffer: its one store -/

def out1_2 (i : grid1.Coords) (x0 : Vec F S64x31232 .f32) (x1 : Vec F S64x31232 .f32) : Vec F S1x64x1 .f32 :=
  View.canon [⟨Scan.whole, Scan.maxOut x0⟩]
def out1_3 (i : grid1.Coords) (x0 : Vec F S64x31232 .f32) (x1 : Vec F S64x31232 .f32) : Vec F S1x64x1 .f32 :=
  View.canon [⟨Scan.whole, Scan.logitOut i x0 x1⟩]
def out1_4 (i : grid1.Coords) (x0 : Vec F S64x31232 .f32) (x1 : Vec F S64x31232 .f32) : Vec F S1x64x1 .f32 :=
  View.canon [⟨Scan.whole, Scan.noiseOut i x0 x1⟩]
def out1_5 (i : grid1.Coords) (x0 : Vec F S64x31232 .f32) (x1 : Vec F S64x31232 .f32) : Vec F S1x64x1 .i32 :=
  View.canon [⟨Scan.whole, Scan.columnOut i x0 x1⟩]

/-- One store of the whole buffer covers it. -/
theorem cover1 {e : EltTy} (p0 : S1x64x1.Idx → Elt F e) (y : S1x64x1.Idx) :
    ∃ pc ∈ ([⟨Scan.whole, p0⟩] : List (View.Piece (Elt F) S1x64x1 e)), y ∈ pc.1.set :=
  View.cover_of_tiled [⟨Scan.whole, p0⟩] S1x64x1.size (by rfl) y

/-! ## The body's triple -/

set_option maxHeartbeats 11817500 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S64x31232 .f32) (harg1 : arg1.IsWhole) (arg2 : Memref sig .tc .vmem S64x31232 .f32) (harg2 : arg2.IsWhole) (arg3 : Memref sig .tc .vmem S1x64x1 .f32) (harg3 : arg3.IsWhole) (arg4 : Memref sig .tc .vmem S1x64x1 .f32) (harg4 : arg4.IsWhole) (arg5 : Memref sig .tc .vmem S1x64x1 .f32) (harg5 : arg5.IsWhole) (arg6 : Memref sig .tc .vmem S1x64x1 .i32) (harg6 : arg6.IsWhole)
    (x0 : Vec F S64x31232 .f32) (x1 : Vec F S64x31232 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (out1_2 i x0 x1) ∗ owns (c : Thread nD τ) arg4 fullShare (out1_3 i x0 x1) ∗ owns (c : Thread nD τ) arg5 fullShare (out1_4 i x0 x1) ∗ owns (c : Thread nD τ) arg6 fullShare (out1_5 i x0 x1)) -∗ K ⟨⟩))
      ⊢ wp frame (wpE (defs₀ (F := F)) Variants.none c none) E (cc1__scan_kernel i arg1 harg1 arg2 harg2 arg3 harg3 arg4 harg4 arg5 harg5 arg6 harg6) K := by
  simp only [cc1__scan_kernel_eq_skeleton]; unfold cc1__scan_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1 _)).trans ?_
    sl_kernel_rfl
  isplitl [H3]
  · iexists _; isplitr
    swap; · iexact H3
    ipureintro
    refine (View.read_writes_eq_canon _ _ _ (cover1 _)).trans ?_
    sl_kernel_rfl
  isplitl [H4]
  · iexists _; isplitr
    swap; · iexact H4
    ipureintro
    refine (View.read_writes_eq_canon _ _ _ (cover1 _)).trans ?_
    sl_kernel_rfl
  iexists _; isplitr
  swap; · iexact H5
  ipureintro
  refine (View.read_writes_eq_canon _ _ _ (cover1 _)).trans ?_
  sl_kernel_rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => X1_0 V c t
    | ⟨1, _⟩ => X1_1 V c t
    | ⟨2, _⟩ => out1_2 (grid1.coords t) (X1_0 V c t) (X1_1 V c t)
    | ⟨3, _⟩ => out1_3 (grid1.coords t) (X1_0 V c t) (X1_1 V c t)
    | ⟨4, _⟩ => out1_4 (grid1.coords t) (X1_0 V c t) (X1_1 V c t)
    | ⟨5, _⟩ => out1_5 (grid1.coords t) (X1_0 V c t) (X1_1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = X1_0 V c t := by dsimp only [dat1]
theorem after1_1 (c : Dev nD) (t : Fin cfg1.N) : (dat1 V c).after 1 t = X1_1 V c t := by dsimp only [dat1]
theorem after1_2 (c : Dev nD) (t : Fin cfg1.N) : (dat1 V c).after 2 t = out1_2 (grid1.coords t) (X1_0 V c t) (X1_1 V c t) := by dsimp only [dat1]
theorem after1_3 (c : Dev nD) (t : Fin cfg1.N) : (dat1 V c).after 3 t = out1_3 (grid1.coords t) (X1_0 V c t) (X1_1 V c t) := by dsimp only [dat1]
theorem after1_4 (c : Dev nD) (t : Fin cfg1.N) : (dat1 V c).after 4 t = out1_4 (grid1.coords t) (X1_0 V c t) (X1_1 V c t) := by dsimp only [dat1]
theorem after1_5 (c : Dev nD) (t : Fin cfg1.N) : (dat1 V c).after 5 t = out1_5 (grid1.coords t) (X1_0 V c t) (X1_1 V c t) := by dsimp only [dat1]

/-- Each input's current staging buffer holds its block at every point, fetched there or not (`beforeK_W_of`). -/
theorem before1_0 (c : Dev nD) (t : Fin cfg1.N) (d) : (dat1 V c).before 0 t d = X1_0 V c t :=
  before1_0_of V (dat1 V c) (A_eq1 V c 0) (after1_0 V c) t d
theorem before1_1 (c : Dev nD) (t : Fin cfg1.N) (d) : (dat1 V c).before 1 t d = X1_1 V c t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (X1_0 V c t) (X1_1 V c t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.PickRegion.lean ====
/- The pick kernel as a region of @main: what its body leaves in the output buffer, and the body run at its one grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

-- the stores' rectangles are compared coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__pick_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S64x32 := Rect.unit (s := S64x32) ![0, 0] S64x32.size inb_S64x32_S64x32_0_0
abbrev r2_1 : Rect S64x576 := Rect.unit (s := S64x576) ![0, 0] S64x576.size inb_S64x576_S64x576_0_0
abbrev r2_2 : Rect S64x1 := Rect.unit (s := S64x1) ![0, 0] S64x1.size inb_S64x1_S64x1_0_0

/-! ## What the body leaves in each output window's buffer -/

/-- Window 6's staging buffer after the body, from the input windows' blocks: its 1 store as pieces, LAST
    FIRST (Lib/Pipeline/FrameBody.lean `View.canon`; the payloads are the skeleton's). -/
def out2_6 (x0 : Vec F S64x32 .f32) (x1 : Vec F S64x32 .f32) (x2 : Vec F S64x32 .f32) (x3 : Vec F S64x32 .i32) (x4 : Vec F S64x576 .f32) (x5 : Vec F S64x576 .f32) : Vec F S64x1 .i32 :=
  View.canon [⟨r2_2, k2_pay1 k2_pay3 (k2_pay6 (View.ld x0 r2_0) (View.ld x4 r2_1) (View.ld x5 r2_1)) (k2_pay8 (View.ld x0 r2_0) (View.ld x1 r2_0) (View.ld x2 r2_0) (View.ld x3 r2_0) (View.ld x4 r2_1) (View.ld x5 r2_1)) (k2_pay9 (View.ld x0 r2_0) (View.ld x1 r2_0) (View.ld x2 r2_0) (View.ld x4 r2_1) (View.ld x5 r2_1))⟩]

/-- Its stores tile the buffer (checked by evaluation), so they cover it. -/
theorem cover2_6 (p0 : Vec F S64x1 .i32) (y : S64x1.Idx) :
    ∃ pc ∈ ([⟨r2_2, p0⟩] : List (View.Piece (Elt F) S64x1 .i32)), y ∈ pc.1.set :=
  View.cover_of_tiled [⟨r2_2, p0⟩] S64x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S64x32 .f32) (harg0 : arg0.IsWhole) (arg1 : Memref sig .tc .vmem S64x32 .f32) (harg1 : arg1.IsWhole) (arg2 : Memref sig .tc .vmem S64x32 .f32) (harg2 : arg2.IsWhole) (arg3 : Memref sig .tc .vmem S64x32 .i32) (harg3 : arg3.IsWhole) (arg4 : Memref sig .tc .vmem S64x576 .f32) (harg4 : arg4.IsWhole) (arg5 : Memref sig .tc .vmem S64x576 .f32) (harg5 : arg5.IsWhole) (arg6 : Memref sig .tc .vmem S64x1 .i32) (harg6 : arg6.IsWhole)
    (x0 : Vec F S64x32 .f32) (x1 : Vec F S64x32 .f32) (x2 : Vec F S64x32 .f32) (x3 : Vec F S64x32 .i32) (x4 : Vec F S64x576 .f32) (x5 : Vec F S64x576 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5)) -∗ K ⟨⟩))
      ⊢ wp frame (wpE (defs₀ (F := F)) Variants.none c none) E (cc2__pick_kernel arg0 harg0 arg1 harg1 arg2 harg2 arg3 harg3 arg4 harg4 arg5 harg5 arg6 harg6) K := by
  simp only [cc2__pick_kernel_eq_skeleton]; unfold cc2__pick_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Launch.lean ====
/- The run of @main: three regions and one host stretch, from the launch to the return. The buffer contents at each
   boundary are a fold from the launch memory; the last one is what every final state holds. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.TableRegion
public import proofs.«01_k».proof.Proof.ScanRegion
public import proofs.«01_k».proof.Proof.PickRegion
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

-- the stores' rectangles are compared coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0]

/-! ## The host stretches: none allocates a buffer, and each lists the references its operations write, in order,
    so that a reference absent from the list keeps its contents across the stretch (Lib/StableHlo/Run.lean
    `after_of_writes_sub`) -/

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v2, main_v3, main_v4, main_v5, main_v6, main_v7, main_v8, main_v9, main_v10, main_v11]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2` (region 2's entry). -/
abbrev W3 : Dev nD → Valuation τ sig (Elt F) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)
/-- The same read at the TensorCore's references (what region 2's proof data take). -/
abbrev V3 : (c : Dev nD) → (b : Ref sig .tc) → Buf (Elt F) ((c : Thread nD τ).loc b) := fun c b => W3 m ρ c b
/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with every counter at zero, every weakly fair execution of @main on the TensorCores ends without a
    fault; then every unscoped buffer of each core holds `W4`, and every semaphore counter is at zero. -/
theorem run : θ_run defs (onTc (τ := τ) (main (F := F))) ⟨m, fun _ => 0, ρ⟩ (fun r => (∀ c : Dev nD,
      ∀ b ∈ Pipeline.ucRefs τ sig, r.2.mem ((c : Dev nD), b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

/-- The frame: @main ends with its argument as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c _ (mem_uc main_arg0 (by decide))).trans (W4_main_arg0 m ρ c), h.2⟩) (run m ρ)

/-- The run read at the result: `main_v12` ends at what the pick kernel's pipeline leaves, the argument as launched. -/
theorem run_result : θ_run defs (onTc (τ := τ) (main (F := F))) ⟨m, fun _ => 0, ρ⟩ (fun r => ∀ c : Dev nD,
      r.2.mem ((c.tc : Thread nD τ).loc main_v12) = (dat2 (V3 m ρ) c).arrAt 6 cfg2.N
      ∧ r.2.mem ((c.tc : Thread nD τ).loc main_arg0) = m ((c.tc : Thread nD τ).loc main_arg0)) :=
  (θ_run defs _ _).mono (fun _ h c => ⟨(h.1 c _ (mem_uc main_v12 (by decide))).trans (W4_arr m ρ c 6),
    (h.1 c _ (mem_uc main_arg0 (by decide))).trans (W4_main_arg0 m ρ c)⟩) (run m ρ)

end Cert.KernelIdeal.Run

end
-- ==== Proof.ReferenceOps.lean ====
/- The reference's @main as a list of its 292 host operations, the calls of the random-bit function and of the
   argmax written out in their places. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v14`, named. It packs its operands into a list of dependent pairs
    whose shapes a later argument's type mentions, so `simp` cannot rewrite an operand where it stands; applied by
    name, the operands are plain arguments, which the window lemmas below rewrite before the name unfolds. -/
def fn_main_v14 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 292 (window `main_part0`). -/
abbrev ops_part0_0 : List (HloOp τ sig (Elt F)) :=
  [ nullary main_cst (constant S_ .f32 0x42200000#32),
    unary main_cst main_v0 (broadcastInDim S64x1000000 ![] bcast_S_S64x1000000 : (⟨S_, .f32⟩ : BufTy).Contents (Elt F) → (⟨S64x1000000, .f32⟩ : BufTy).Contents (Elt F)),
    binary main_arg0 main_v0 main_v1 (minimumf : (⟨S64x1000000, .f32⟩ : BufTy).Contents (Elt F) → (⟨S64x1000000, .f32⟩ : BufTy).Contents (Elt F) → (⟨S64x1000000, .f32⟩ : BufTy).Contents (Elt F)),
    nullary main_cst_0 (constant S_ .f32 0xFF800000#32),
    binary main_v1 main_cst_0 main_v2 ((fun x v => Host.reduce FloatOps.maximumf x v reducesTo_S64x1000000_S64_d1 h_S_) : (⟨S64x1000000, .f32⟩ : BufTy).Contents (Elt F) → (⟨S_, .f32⟩ : BufTy).Contents (Elt F) → (⟨S64, .f32⟩ : BufTy).Contents (Elt F)),
    unary main_v2 main_v3 (broadcastInDim S64x1 ![0] bcast_S64_S64x1_0 : (⟨S64, .f32⟩ : BufTy).Contents (Elt F) → (⟨S64x1, .f32⟩ : BufTy).Contents (Elt F)),
    unary main_v3 main_v4 (broadcastInDim S64x1000000 ![0, 1] bcast_S64x1_S64x1000000_0_1 : (⟨S64x1, .f32⟩ : BufTy).Contents (Elt F) → (⟨S64x1000000, .f32⟩ : BufTy).Contents (Elt F)),
    binary main_v1 main_v4 main_v5 (subf : (⟨S64x1000000, .f32⟩ : BufTy).Contents (Elt F) → (⟨S64x1000000, .f32⟩ : BufTy).Contents (Elt F) → (⟨S64x1000000, .f32⟩ : BufTy).Contents (Elt F)),
    nullary main_cst_1 (constant S_ .f32 0x3F800000#32),
    unary main_cst_1 main_v6 (broadcastInDim S64x1000000 ![] bcast_S_S64x1000000 : (⟨S_, .f32⟩ : BufTy).Contents (Elt F) → (⟨S64x1000000, .f32⟩ : BufTy).Contents (Elt F)),
    binary main_v5 main_v6 main_v7 (Host.divf : (⟨S64x1000000, .f32⟩ : BufTy).Contents (Elt F) → (⟨S64x1000000, .f32⟩ : BufTy).Contents (Elt F) → (⟨S64x1000000, .f32⟩ : BufTy).Contents (Elt F)),
    nullary main_c (constantI S_ 32 42#32),
    nullary main_c_2 (constantI S_ 32 32#32),
    binary main_c main_c_2 main_v8 (Host.shrui : (⟨S_, .i32⟩ : BufTy).Contents (Elt F) → (⟨S_, .i32⟩ : BufTy).Contents (Elt F) → (⟨S_, .i32⟩ : BufTy).Contents (Elt F)),
    unary main_v8 main_v9 (id : (⟨S_, .i32⟩ : BufTy).Contents (Elt F) → (⟨S_, .i32⟩ : BufTy).Contents (Elt F)),
    unary main_v9 main_v10 (broadcastInDim S1 ![] bcast_S_S1 : (⟨S_, .i32⟩ : BufTy).Contents (Elt F) → (⟨S1, .i32⟩ : BufTy).Contents (Elt F)),
    nullary main_c_3 (constantI S_ 32 4294967295#32),
    binary main_c main_c_3 main_v11 (andi : (⟨S_, .i32⟩ : BufTy).Contents (Elt F) → (⟨S_, .i32⟩ : BufTy).Contents (Elt F) → (⟨S_, .i32⟩ : BufTy).Contents (Elt F)),
    unary main_v11 main_v12 (id : (⟨S_, .i32⟩ : BufTy).Contents (Elt F) → (⟨S_, .i32⟩ : BufTy).Contents (Elt F)),
    unary main_v12 main_v13 (broadcastInDim S1 ![] bcast_S_S1 : (⟨S_, .i32⟩ : BufTy).Contents (Elt F) → (⟨S1, .i32⟩ : BufTy).Contents (Elt F)),
    binary main_v10 main_v13 main_v14 (fn_main_v14 (F := F)),
    unary main_v14 main_v15 ((extractStridedSlice S1 ![0] · slices_S2_S1_0) : (⟨S2, .i32⟩ : BufTy).Contents (Elt F) → (⟨S1, .i32⟩ : BufTy).Contents (Elt F)),
    reshape main_v15 main_v16 (rfl : (.i32 : EltTy) = .i32) shapeCasts_S1_S_,
    unary main_v14 main_v17 ((extractStridedSlice S1 ![1] · slices_S2_S1_1) : (⟨S2, .i32⟩ : BufTy).Contents (Elt F) → (⟨S1, .i32⟩ : BufTy).Contents (Elt F)),
    reshape main_v17 main_v18 (rfl : (.i32 : EltTy) = .i32) shapeCasts_S1_S_,
    nullary main_v19 (iotaInDim S64x1000000 64 0),
    nullary main_v20 (iotaInDim S64x1000000 64 1),
    nullary main_c_4 (constantI S_ 64 1000000#64),
    unary main_c_4 main_v21 (broadcastInDim S64x1000000 ![] bcast_S_S64x1000000 : (⟨S_, .i64⟩ : BufTy).Contents (Elt F) → (⟨S64x1000000, .i64⟩ : BufTy).Contents (Elt F)),
    binary main_v21 main_v19 main_v22 (muli : (⟨S64x1000000, .i64⟩ : BufTy).Contents (Elt F) → (⟨S64x1000000, .i64⟩ : BufTy).Contents (Elt F) → (⟨S64x1000000, .i64⟩ : BufTy).Contents (Elt F)) ]

/-- @main's operations 31 … 60 of 292 (window `main_part0`). -/
abbrev ops_part0_1 : List (HloOp τ sig (Elt F)) :=
  [ nullary main_c_5 (constantI S_ 64 1#64),
    unary main_c_5 main_v23 (broadcastInDim S64x1000000 ![] bcast_S_S64x1000000 : (⟨S_, .i64⟩ : BufTy).Contents (Elt F) → (⟨S64x1000000, .i64⟩ : BufTy).Contents (Elt F)),
    binary main_v23 main_v20 main_v24 (muli : (⟨S64x1000000, .i64⟩ : BufTy).Contents (Elt F) → (⟨S64x1000000, .i64⟩ : BufTy).Contents (Elt F) → (⟨S64x1000000, .i64⟩ : BufTy).Contents (Elt F)),
    binary main_v22 main_v24 main_v25 (addi : (⟨S64x1000000, .i64⟩ : BufTy).Contents (Elt F) → (⟨S64x1000000, .i64⟩ : BufTy).Contents (Elt F) → (⟨S64x1000000, .i64⟩ : BufTy).Contents (Elt F)),
    nullary main_c_6 (constantI S_ 64 32#64),
    unary main_c_6 main_v26 (broadcastInDim S64x1000000 ![] bcast_S_S64x1000000 : (⟨S_, .i64⟩ : BufTy).Contents (Elt F) → (⟨S64x1000000, .i64⟩ : BufTy).Contents (Elt F)),
    binary main_v25 main_v26 main_v27 (Host.shrui : (⟨S64x1000000, .i64⟩ : BufTy).Contents (Elt F) → (⟨S64x1000000, .i64⟩ : BufTy).Contents (Elt F) → (⟨S64x1000000, .i64⟩ : BufTy).Contents (Elt F)),
    unary main_v25 main_v28 ((trunci 32 · natLt_32_64) : (⟨S64x1000000, .i64⟩ : BufTy).Contents (Elt F) → (⟨S64x1000000, .i32⟩ : BufTy).Contents (Elt F)),
    unary main_v27 main_v29 ((trunci 32 · natLt_32_64) : (⟨S64x1000000, .i64⟩ : BufTy).Contents (Elt F) → (⟨S64x1000000, .i32⟩ : BufTy).Contents (Elt F)),
    TRef.binary (TRef.of (T := ⟨S_, .i32⟩) main_v16) (TRef.of (T := ⟨S_, .i32⟩) main_v18) (TRef.of (T := ⟨S_, .i32⟩) main_call0_v0) xori,
    TRef.nullary (TRef.of (T := ⟨S_, .i32⟩) main_call0_c) (constantI S_ 32 466688986#32),
    TRef.binary (TRef.of (T := ⟨S_, .i32⟩) main_call0_v0) (TRef.of (T := ⟨S_, .i32⟩) main_call0_c) (TRef.of (T := ⟨S_, .i32⟩) main_call0_v1) xori,
    TRef.unary (TRef.of (T := ⟨S_, .i32⟩) main_v16) (TRef.of (T := ⟨S64x1000000, .i32⟩) main_call0_v2) (broadcastInDim S64x1000000 ![] bcast_S_S64x1000000),
    TRef.binary (TRef.of (T := ⟨S64x1000000, .i32⟩) main_v29) (TRef.of (T := ⟨S64x1000000, .i32⟩) main_call0_v2) (TRef.of (T := ⟨S64x1000000, .i32⟩) main_call0_v3) addi,
    TRef.unary (TRef.of (T := ⟨S_, .i32⟩) main_v18) (TRef.of (T := ⟨S64x1000000, .i32⟩) main_call0_v4) (broadcastInDim S64x1000000 ![] bcast_S_S64x1000000),
    TRef.binary (TRef.of (T := ⟨S64x1000000, .i32⟩) main_v28) (TRef.of (T := ⟨S64x1000000, .i32⟩) main_call0_v4) (TRef.of (T := ⟨S64x1000000, .i32⟩) main_call0_v5) addi,
    TRef.binary (TRef.of (T := ⟨S64x1000000, .i32⟩) main_call0_v3) (TRef.of (T := ⟨S64x1000000, .i32⟩) main_call0_v5) (TRef.of (T := ⟨S64x1000000, .i32⟩) main_call0_v6) addi,
    TRef.nullary (TRef.of (T := ⟨S_, .i32⟩) main_call0_c_0) (constantI S_ 32 13#32),
    TRef.unary (TRef.of (T := ⟨S_, .i32⟩) main_call0_c_0) (TRef.of (T := ⟨S64x1000000, .i32⟩) main_call0_v7) (broadcastInDim S64x1000000 ![] bcast_S_S64x1000000),
    TRef.binary (TRef.of (T := ⟨S64x1000000, .i32⟩) main_call0_v5) (TRef.of (T := ⟨S64x1000000, .i32⟩) main_call0_v7) (TRef.of (T := ⟨S64x1000000, .i32⟩) main_call0_v8) Host.shli,
    TRef.nullary (TRef.of (T := ⟨S_, .i32⟩) main_call0_c_1) (constantI S_ 32 19#32),
    TRef.unary (TRef.of (T := ⟨S_, .i32⟩) main_call0_c_1) (TRef.of (T := ⟨S64x1000000, .i32⟩) main_call0_v9) (broadcastInDim S64x1000000 ![] bcast_S_S64x1000000),
    TRef.binary (TRef.of (T := ⟨S64x1000000, .i32⟩) main_call0_v5) (TRef.of (T := ⟨S64x1000000, .i32⟩) main_call0_v9) (TRef.of (T := ⟨S64x1000000, .i32⟩) main_call0_v10) Host.shrui,
    TRef.binary (TRef.of (T := ⟨S64x1000000, .i32⟩) main_call0_v8) (TRef.of (T := ⟨S64x1000000, .i32⟩) main_call0_v10) (TRef.of (T := ⟨S64x1000000, .i32⟩) main_call0_v11) ori,
    TRef.binary (TRef.of (T := ⟨S64x1000000, .i32⟩) main_call0_v6) (TRef.of (T := ⟨S64x1000000, .i32⟩) main_call0_v11) (TRef.of (T := ⟨S64x1000000, .i32⟩) main_call0_v12) xori,
    TRef.binary (TRef.of (T := ⟨S64x1000000, .i32⟩) main_call0_v6) (TRef.of (T := ⟨S64x1000000, .i32⟩) main_call0_v12) (TRef.of (T := ⟨S64x1000000, .i32⟩) main_call0_v13) addi,
    TRef.nullary (TRef.of (T := ⟨S_, .i32⟩) main_call0_c_2) (constantI S_ 32 15#32),
    TRef.unary (TRef.of (T := ⟨S_, .i32⟩) main_call0_c_2) (TRef.of (T := ⟨S64x1000000, .i32⟩) main_call0_v14) (broadcastInDim S64x1000000 ![] bcast_S_S64x1000000),
    TRef.binary (TRef.of (T := ⟨S64x1000000, .i32⟩) main_call0_v12) (TRef.of (T := ⟨S64x1000000, .i32⟩) main_call0_v14) (TRef.of (T := ⟨S64x1000000, .i32⟩) main_call0_v15) Host.shli,
    TRef.nullary (TRef.of (T := ⟨S_, .i32⟩) main_call0_c_3) (constantI S_ 32 17#32) ]

/-- @main's operations 61 … 90 of 292 (window `main_part0`). -/
abbrev ops_part0_2 : List (HloOp τ sig (Elt F)) :=
  [ TRef.unary (TRef.of (T := ⟨S_, .i32⟩) main_call0_c_3) (TRef.of (T := ⟨S64x1000000, .i32⟩) main_call0_v16) (broadcastInDim S64x1000000 ![] bcast_S_S64x1000000),
    TRef.binary (TRef.of (T := ⟨S64x1000000, .i32⟩) main_call0_v12) (TRef.of (T := ⟨S64x1000000, .i32⟩) main_call0_v16) (TRef.of (T := ⟨S64x1000000, .i32⟩) main_call0_v17) Host.shrui,
    TRef.binary (TRef.of (T := ⟨S64x1000000, .i32⟩) main_call0_v15) (TRef.of (T := ⟨S64x1000000, .i32⟩) main_call0_v17) (TRef.of (T := ⟨S64x1000000, .i32⟩) main_call0_v18) ori,
    TRef.binary (TRef.of (T := ⟨S64x1000000, .i32⟩) main_call0_v13) (TRef.of (T := ⟨S64x1000000, .i32⟩) main_call0_v18) (TRef.of (T := ⟨S64x1000000, .i32⟩) main_call0_v19) xori,
    TRef.binary (TRef.of (T := ⟨S64x1000000, .i32⟩) main_call0_v13) (TRef.of (T := ⟨S64x1000000, .i32⟩) main_call0_v19) (TRef.of (T := ⟨S64x1000000, .i32⟩) main_call0_v20) addi,
    TRef.nullary (TRef.of (T := ⟨S_, .i32⟩) main_call0_c_4) (constantI S_ 32 26#32),
    TRef.unary (TRef.of (T := ⟨S_, .i32⟩) main_call0_c_4) (TRef.of (T := ⟨S64x1000000, .i32⟩) main_call0_v21) (broadcastInDim S64x1000000 ![] bcast_S_S64x1000000),
    TRef.binary (TRef.of (T := ⟨S64x1000000, .i32⟩) main_call0_v19) (TRef.of (T := ⟨S64x1000000, .i32⟩) main_call0_v21) (TRef.of (T := ⟨S64x1000000, .i32⟩) main_call0_v22) Host.shli,
    TRef.nullary (TRef.of (T := ⟨S_, .i32⟩) main_call0_c_5) (constantI S_ 32 6#32),
    TRef.unary (TRef.of (T := ⟨S_, .i32⟩) main_call0_c_5) (TRef.of (T := ⟨S64x1000000, .i32⟩) main_call0_v23) (broadcastInDim S64x1000000 ![] bcast_S_S64x1000000),
    TRef.binary (TRef.of (T := ⟨S64x1000000, .i32⟩) main_call0_v19) (TRef.of (T := ⟨S64x1000000, .i32⟩) main_call0_v23) (TRef.of (T := ⟨S64x1000000, .i32⟩) main_call0_v24) Host.shrui,
    TRef.binary (TRef.of (T := ⟨S64x1000000, .i32⟩) main_call0_v22) (TRef.of (T := ⟨S64x1000000, .i32⟩) main_call0_v24) (TRef.of (T := ⟨S64x1000000, .i32⟩) main_call0_v25) ori,
    TRef.binary (TRef.of (T := ⟨S64x1000000, .i32⟩) main_call0_v20) (TRef.of (T := ⟨S64x1000000, .i32⟩) main_call0_v25) (TRef.of (T := ⟨S64x1000000, .i32⟩) main_call0_v26) xori,
    TRef.binary (TRef.of (T := ⟨S64x1000000, .i32⟩) main_call0_v20) (TRef.of (T := ⟨S64x1000000, .i32⟩) main_call0_v26) (TRef.of (T := ⟨S64x1000000, .i32⟩) main_call0_v27) addi,
    TRef.nullary (TRef.of (T := ⟨S_, .i32⟩) main_call0_c_6) (constantI S_ 32 6#32),
    TRef.unary (TRef.of (T := ⟨S_, .i32⟩) main_call0_c_6) (TRef.of (T := ⟨S64x1000000, .i32⟩) main_call0_v28) (broadcastInDim S64x1000000 ![] bcast_S_S64x1000000),
    TRef.binary (TRef.of (T := ⟨S64x1000000, .i32⟩) main_call0_v26) (TRef.of (T := ⟨S64x1000000, .i32⟩) main_call0_v28) (TRef.of (T := ⟨S64x1000000, .i32⟩) main_call0_v29) Host.shli,
    TRef.nullary (TRef.of (T := ⟨S_, .i32⟩) main_call0_c_7) (constantI S_ 32 26#32),
    TRef.unary (TRef.of (T := ⟨S_, .i32⟩) main_call0_c_7) (TRef.of (T := ⟨S64x1000000, .i32⟩) main_call0_v30) (broadcastInDim S64x1000000 ![] bcast_S_S64x1000000),
    TRef.binary (TRef.of (T := ⟨S64x1000000, .i32⟩) main_call0_v26) (TRef.of (T := ⟨S64x1000000, .i32⟩) main_call0_v30) (TRef.of (T := ⟨S64x1000000, .i32⟩) main_call0_v31) Host.shrui,
    TRef.binary (TRef.of (T := ⟨S64x1000000, .i32⟩) main_call0_v29) (TRef.of (T := ⟨S64x1000000, .i32⟩) main_call0_v31) (TRef.of (T := ⟨S64x1000000, .i32⟩) main_call0_v32) ori,
    TRef.binary (TRef.of (T := ⟨S64x1000000, .i32⟩) main_call0_v27) (TRef.of (T := ⟨S64x1000000, .i32⟩) main_call0_v32) (TRef.of (T := ⟨S64x1000000, .i32⟩) main_call0_v33) xori,
    TRef.unary (TRef.of (T := ⟨S_, .i32⟩) main_v18) (TRef.of (T := ⟨S64x1000000, .i32⟩) main_call0_v34) (broadcastInDim S64x1000000 ![] bcast_S_S64x1000000),
    TRef.binary (TRef.of (T := ⟨S64x1000000, .i32⟩) main_call0_v27) (TRef.of (T := ⟨S64x1000000, .i32⟩) main_call0_v34) (TRef.of (T := ⟨S64x1000000, .i32⟩) main_call0_v35) addi,
    TRef.unary (TRef.of (T := ⟨S_, .i32⟩) main_call0_v1) (TRef.of (T := ⟨S64x1000000, .i32⟩) main_call0_v36) (broadcastInDim S64x1000000 ![] bcast_S_S64x1000000),
    TRef.binary (TRef.of (T := ⟨S64x1000000, .i32⟩) main_call0_v33) (TRef.of (T := ⟨S64x1000000, .i32⟩) main_call0_v36) (TRef.of (T := ⟨S64x1000000, .i32⟩) main_call0_v37) addi,
    TRef.nullary (TRef.of (T := ⟨S_, .i32⟩) main_call0_c_8) (constantI S_ 32 1#32),
    TRef.unary (TRef.of (T := ⟨S_, .i32⟩) main_call0_c_8) (TRef.of (T := ⟨S64x1000000, .i32⟩) main_call0_v38) (broadcastInDim S64x1000000 ![] bcast_S_S64x1000000),
    TRef.binary (TRef.of (T := ⟨S64x1000000, .i32⟩) main_call0_v37) (TRef.of (T := ⟨S64x1000000, .i32⟩) main_call0_v38) (TRef.of (T := ⟨S64x1000000, .i32⟩) main_call0_v39) addi,
    TRef.binary (TRef.of (T := ⟨S64x1000000, .i32⟩) main_call0_v35) (TRef.of (T := ⟨S64x1000000, .i32⟩) main_call0_v39) (TRef.of (T := ⟨S64x1000000, .i32⟩) main_call0_v40) addi ]

/-- @main's operations 91 … 120 of 292 (window `main_part0`). -/
abbrev ops_part0_3 : List (HloOp τ sig (Elt F)) :=
  [ TRef.nullary (TRef.of (T := ⟨S_, .i32⟩) main_call0_c_9) (constantI S_ 32 17#32),
    TRef.unary (TRef.of (T := ⟨S_, .i32⟩) main_call0_c_9) (TRef.of (T := ⟨S64x1000000, .i32⟩) main_call0_v41) (broadcastInDim S64x1000000 ![] bcast_S_S64x1000000),
    TRef.binary (TRef.of (T := ⟨S64x1000000, .i32⟩) main_call0_v39) (TRef.of (T := ⟨S64x1000000, .i32⟩) main_call0_v41) (TRef.of (T := ⟨S64x1000000, .i32⟩) main_call0_v42) Host.shli,
    TRef.nullary (TRef.of (T := ⟨S_, .i32⟩) main_call0_c_10) (constantI S_ 32 15#32),
    TRef.unary (TRef.of (T := ⟨S_, .i32⟩) main_call0_c_10) (TRef.of (T := ⟨S64x1000000, .i32⟩) main_call0_v43) (broadcastInDim S64x1000000 ![] bcast_S_S64x1000000),
    TRef.binary (TRef.of (T := ⟨S64x1000000, .i32⟩) main_call0_v39) (TRef.of (T := ⟨S64x1000000, .i32⟩) main_call0_v43) (TRef.of (T := ⟨S64x1000000, .i32⟩) main_call0_v44) Host.shrui,
    TRef.binary (TRef.of (T := ⟨S64x1000000, .i32⟩) main_call0_v42) (TRef.of (T := ⟨S64x1000000, .i32⟩) main_call0_v44) (TRef.of (T := ⟨S64x1000000, .i32⟩) main_call0_v45) ori,
    TRef.binary (TRef.of (T := ⟨S64x1000000, .i32⟩) main_call0_v40) (TRef.of (T := ⟨S64x1000000, .i32⟩) main_call0_v45) (TRef.of (T := ⟨S64x1000000, .i32⟩) main_call0_v46) xori,
    TRef.binary (TRef.of (T := ⟨S64x1000000, .i32⟩) main_call0_v40) (TRef.of (T := ⟨S64x1000000, .i32⟩) main_call0_v46) (TRef.of (T := ⟨S64x1000000, .i32⟩) main_call0_v47) addi,
    TRef.nullary (TRef.of (T := ⟨S_, .i32⟩) main_call0_c_11) (constantI S_ 32 29#32),
    TRef.unary (TRef.of (T := ⟨S_, .i32⟩) main_call0_c_11) (TRef.of (T := ⟨S64x1000000, .i32⟩) main_call0_v48) (broadcastInDim S64x1000000 ![] bcast_S_S64x1000000),
    TRef.binary (TRef.of (T := ⟨S64x1000000, .i32⟩) main_call0_v46) (TRef.of (T := ⟨S64x1000000, .i32⟩) main_call0_v48) (TRef.of (T := ⟨S64x1000000, .i32⟩) main_call0_v49) Host.shli,
    TRef.nullary (TRef.of (T := ⟨S_, .i32⟩) main_call0_c_12) (constantI S_ 32 3#32),
    TRef.unary (TRef.of (T := ⟨S_, .i32⟩) main_call0_c_12) (TRef.of (T := ⟨S64x1000000, .i32⟩) main_call0_v50) (broadcastInDim S64x1000000 ![] bcast_S_S64x1000000),
    TRef.binary (TRef.of (T := ⟨S64x1000000, .i32⟩) main_call0_v46) (TRef.of (T := ⟨S64x1000000, .i32⟩) main_call0_v50) (TRef.of (T := ⟨S64x1000000, .i32⟩) main_call0_v51) Host.shrui,
    TRef.binary (TRef.of (T := ⟨S64x1000000, .i32⟩) main_call0_v49) (TRef.of (T := ⟨S64x1000000, .i32⟩) main_call0_v51) (TRef.of (T := ⟨S64x1000000, .i32⟩) main_call0_v52) ori,
    TRef.binary (TRef.of (T := ⟨S64x1000000, .i32⟩) main_call0_v47) (TRef.of (T := ⟨S64x1000000, .i32⟩) main_call0_v52) (TRef.of (T := ⟨S64x1000000, .i32⟩) main_call0_v53) xori,
    TRef.binary (TRef.of (T := ⟨S64x1000000, .i32⟩) main_call0_v47) (TRef.of (T := ⟨S64x1000000, .i32⟩) main_call0_v53) (TRef.of (T := ⟨S64x1000000, .i32⟩) main_call0_v54) addi,
    TRef.nullary (TRef.of (T := ⟨S_, .i32⟩) main_call0_c_13) (constantI S_ 32 16#32),
    TRef.unary (TRef.of (T := ⟨S_, .i32⟩) main_call0_c_13) (TRef.of (T := ⟨S64x1000000, .i32⟩) main_call0_v55) (broadcastInDim S64x1000000 ![] bcast_S_S64x1000000),
    TRef.binary (TRef.of (T := ⟨S64x1000000, .i32⟩) main_call0_v53) (TRef.of (T := ⟨S64x1000000, .i32⟩) main_call0_v55) (TRef.of (T := ⟨S64x1000000, .i32⟩) main_call0_v56) Host.shli,
    TRef.nullary (TRef.of (T := ⟨S_, .i32⟩) main_call0_c_14) (constantI S_ 32 16#32),
    TRef.unary (TRef.of (T := ⟨S_, .i32⟩) main_call0_c_14) (TRef.of (T := ⟨S64x1000000, .i32⟩) main_call0_v57) (broadcastInDim S64x1000000 ![] bcast_S_S64x1000000),
    TRef.binary (TRef.of (T := ⟨S64x1000000, .i32⟩) main_call0_v53) (TRef.of (T := ⟨S64x1000000, .i32⟩) main_call0_v57) (TRef.of (T := ⟨S64x1000000, .i32⟩) main_call0_v58) Host.shrui,
    TRef.binary (TRef.of (T := ⟨S64x1000000, .i32⟩) main_call0_v56) (TRef.of (T := ⟨S64x1000000, .i32⟩) main_call0_v58) (TRef.of (T := ⟨S64x1000000, .i32⟩) main_call0_v59) ori,
    TRef.binary (TRef.of (T := ⟨S64x1000000, .i32⟩) main_call0_v54) (TRef.of (T := ⟨S64x1000000, .i32⟩) main_call0_v59) (TRef.of (T := ⟨S64x1000000, .i32⟩) main_call0_v60) xori,
    TRef.binary (TRef.of (T := ⟨S64x1000000, .i32⟩) main_call0_v54) (TRef.of (T := ⟨S64x1000000, .i32⟩) main_call0_v60) (TRef.of (T := ⟨S64x1000000, .i32⟩) main_call0_v61) addi,
    TRef.nullary (TRef.of (T := ⟨S_, .i32⟩) main_call0_c_15) (constantI S_ 32 24#32),
    TRef.unary (TRef.of (T := ⟨S_, .i32⟩) main_call0_c_15) (TRef.of (T := ⟨S64x1000000, .i32⟩) main_call0_v62) (broadcastInDim S64x1000000 ![] bcast_S_S64x1000000),
    TRef.binary (TRef.of (T := ⟨S64x1000000, .i32⟩) main_call0_v60) (TRef.of (T := ⟨S64x1000000, .i32⟩) main_call0_v62) (TRef.of (T := ⟨S64x1000000, .i32⟩) main_call0_v63) Host.shli ]

/-- @main's operations 121 … 150 of 292 (window `main_part0`). -/
abbrev ops_part0_4 : List (HloOp τ sig (Elt F)) :=
  [ TRef.nullary (TRef.of (T := ⟨S_, .i32⟩) main_call0_c_16) (constantI S_ 32 8#32),
    TRef.unary (TRef.of (T := ⟨S_, .i32⟩) main_call0_c_16) (TRef.of (T := ⟨S64x1000000, .i32⟩) main_call0_v64) (broadcastInDim S64x1000000 ![] bcast_S_S64x1000000),
    TRef.binary (TRef.of (T := ⟨S64x1000000, .i32⟩) main_call0_v60) (TRef.of (T := ⟨S64x1000000, .i32⟩) main_call0_v64) (TRef.of (T := ⟨S64x1000000, .i32⟩) main_call0_v65) Host.shrui,
    TRef.binary (TRef.of (T := ⟨S64x1000000, .i32⟩) main_call0_v63) (TRef.of (T := ⟨S64x1000000, .i32⟩) main_call0_v65) (TRef.of (T := ⟨S64x1000000, .i32⟩) main_call0_v66) ori,
    TRef.binary (TRef.of (T := ⟨S64x1000000, .i32⟩) main_call0_v61) (TRef.of (T := ⟨S64x1000000, .i32⟩) main_call0_v66) (TRef.of (T := ⟨S64x1000000, .i32⟩) main_call0_v67) xori,
    TRef.unary (TRef.of (T := ⟨S_, .i32⟩) main_call0_v1) (TRef.of (T := ⟨S64x1000000, .i32⟩) main_call0_v68) (broadcastInDim S64x1000000 ![] bcast_S_S64x1000000),
    TRef.binary (TRef.of (T := ⟨S64x1000000, .i32⟩) main_call0_v61) (TRef.of (T := ⟨S64x1000000, .i32⟩) main_call0_v68) (TRef.of (T := ⟨S64x1000000, .i32⟩) main_call0_v69) addi,
    TRef.unary (TRef.of (T := ⟨S_, .i32⟩) main_v16) (TRef.of (T := ⟨S64x1000000, .i32⟩) main_call0_v70) (broadcastInDim S64x1000000 ![] bcast_S_S64x1000000),
    TRef.binary (TRef.of (T := ⟨S64x1000000, .i32⟩) main_call0_v67) (TRef.of (T := ⟨S64x1000000, .i32⟩) main_call0_v70) (TRef.of (T := ⟨S64x1000000, .i32⟩) main_call0_v71) addi,
    TRef.nullary (TRef.of (T := ⟨S_, .i32⟩) main_call0_c_17) (constantI S_ 32 2#32),
    TRef.unary (TRef.of (T := ⟨S_, .i32⟩) main_call0_c_17) (TRef.of (T := ⟨S64x1000000, .i32⟩) main_call0_v72) (broadcastInDim S64x1000000 ![] bcast_S_S64x1000000),
    TRef.binary (TRef.of (T := ⟨S64x1000000, .i32⟩) main_call0_v71) (TRef.of (T := ⟨S64x1000000, .i32⟩) main_call0_v72) (TRef.of (T := ⟨S64x1000000, .i32⟩) main_call0_v73) addi,
    TRef.binary (TRef.of (T := ⟨S64x1000000, .i32⟩) main_call0_v69) (TRef.of (T := ⟨S64x1000000, .i32⟩) main_call0_v73) (TRef.of (T := ⟨S64x1000000, .i32⟩) main_call0_v74) addi,
    TRef.nullary (TRef.of (T := ⟨S_, .i32⟩) main_call0_c_18) (constantI S_ 32 13#32),
    TRef.unary (TRef.of (T := ⟨S_, .i32⟩) main_call0_c_18) (TRef.of (T := ⟨S64x1000000, .i32⟩) main_call0_v75) (broadcastInDim S64x1000000 ![] bcast_S_S64x1000000),
    TRef.binary (TRef.of (T := ⟨S64x1000000, .i32⟩) main_call0_v73) (TRef.of (T := ⟨S64x1000000, .i32⟩) main_call0_v75) (TRef.of (T := ⟨S64x1000000, .i32⟩) main_call0_v76) Host.shli,
    TRef.nullary (TRef.of (T := ⟨S_, .i32⟩) main_call0_c_19) (constantI S_ 32 19#32),
    TRef.unary (TRef.of (T := ⟨S_, .i32⟩) main_call0_c_19) (TRef.of (T := ⟨S64x1000000, .i32⟩) main_call0_v77) (broadcastInDim S64x1000000 ![] bcast_S_S64x1000000),
    TRef.binary (TRef.of (T := ⟨S64x1000000, .i32⟩) main_call0_v73) (TRef.of (T := ⟨S64x1000000, .i32⟩) main_call0_v77) (TRef.of (T := ⟨S64x1000000, .i32⟩) main_call0_v78) Host.shrui,
    TRef.binary (TRef.of (T := ⟨S64x1000000, .i32⟩) main_call0_v76) (TRef.of (T := ⟨S64x1000000, .i32⟩) main_call0_v78) (TRef.of (T := ⟨S64x1000000, .i32⟩) main_call0_v79) ori,
    TRef.binary (TRef.of (T := ⟨S64x1000000, .i32⟩) main_call0_v74) (TRef.of (T := ⟨S64x1000000, .i32⟩) main_call0_v79) (TRef.of (T := ⟨S64x1000000, .i32⟩) main_call0_v80) xori,
    TRef.binary (TRef.of (T := ⟨S64x1000000, .i32⟩) main_call0_v74) (TRef.of (T := ⟨S64x1000000, .i32⟩) main_call0_v80) (TRef.of (T := ⟨S64x1000000, .i32⟩) main_call0_v81) addi,
    TRef.nullary (TRef.of (T := ⟨S_, .i32⟩) main_call0_c_20) (constantI S_ 32 15#32),
    TRef.unary (TRef.of (T := ⟨S_, .i32⟩) main_call0_c_20) (TRef.of (T := ⟨S64x1000000, .i32⟩) main_call0_v82) (broadcastInDim S64x1000000 ![] bcast_S_S64x1000000),
    TRef.binary (TRef.of (T := ⟨S64x1000000, .i32⟩) main_call0_v80) (TRef.of (T := ⟨S64x1000000, .i32⟩) main_call0_v82) (TRef.of (T := ⟨S64x1000000, .i32⟩) main_call0_v83) Host.shli,
    TRef.nullary (TRef.of (T := ⟨S_, .i32⟩) main_call0_c_21) (constantI S_ 32 17#32),
    TRef.unary (TRef.of (T := ⟨S_, .i32⟩) main_call0_c_21) (TRef.of (T := ⟨S64x1000000, .i32⟩) main_call0_v84) (broadcastInDim S64x1000000 ![] bcast_S_S64x1000000),
    TRef.binary (TRef.of (T := ⟨S64x1000000, .i32⟩) main_call0_v80) (TRef.of (T := ⟨S64x1000000, .i32⟩) main_call0_v84) (TRef.of (T := ⟨S64x1000000, .i32⟩) main_call0_v85) Host.shrui,
    TRef.binary (TRef.of (T := ⟨S64x1000000, .i32⟩) main_call0_v83) (TRef.of (T := ⟨S64x1000000, .i32⟩) main_call0_v85) (TRef.of (T := ⟨S64x1000000, .i32⟩) main_call0_v86) ori,
    TRef.binary (TRef.of (T := ⟨S64x1000000, .i32⟩) main_call0_v81) (TRef.of (T := ⟨S64x1000000, .i32⟩) main_call0_v86) (TRef.of (T := ⟨S64x1000000, .i32⟩) main_call0_v87) xori ]

/-- @main's operations 151 … 180 of 292 (window `main_part0`). -/
abbrev ops_part0_5 : List (HloOp τ sig (Elt F)) :=
  [ TRef.binary (TRef.of (T := ⟨S64x1000000, .i32⟩) main_call0_v81) (TRef.of (T := ⟨S64x1000000, .i32⟩) main_call0_v87) (TRef.of (T := ⟨S64x1000000, .i32⟩) main_call0_v88) addi,
    TRef.nullary (TRef.of (T := ⟨S_, .i32⟩) main_call0_c_22) (constantI S_ 32 26#32),
    TRef.unary (TRef.of (T := ⟨S_, .i32⟩) main_call0_c_22) (TRef.of (T := ⟨S64x1000000, .i32⟩) main_call0_v89) (broadcastInDim S64x1000000 ![] bcast_S_S64x1000000),
    TRef.binary (TRef.of (T := ⟨S64x1000000, .i32⟩) main_call0_v87) (TRef.of (T := ⟨S64x1000000, .i32⟩) main_call0_v89) (TRef.of (T := ⟨S64x1000000, .i32⟩) main_call0_v90) Host.shli,
    TRef.nullary (TRef.of (T := ⟨S_, .i32⟩) main_call0_c_23) (constantI S_ 32 6#32),
    TRef.unary (TRef.of (T := ⟨S_, .i32⟩) main_call0_c_23) (TRef.of (T := ⟨S64x1000000, .i32⟩) main_call0_v91) (broadcastInDim S64x1000000 ![] bcast_S_S64x1000000),
    TRef.binary (TRef.of (T := ⟨S64x1000000, .i32⟩) main_call0_v87) (TRef.of (T := ⟨S64x1000000, .i32⟩) main_call0_v91) (TRef.of (T := ⟨S64x1000000, .i32⟩) main_call0_v92) Host.shrui,
    TRef.binary (TRef.of (T := ⟨S64x1000000, .i32⟩) main_call0_v90) (TRef.of (T := ⟨S64x1000000, .i32⟩) main_call0_v92) (TRef.of (T := ⟨S64x1000000, .i32⟩) main_call0_v93) ori,
    TRef.binary (TRef.of (T := ⟨S64x1000000, .i32⟩) main_call0_v88) (TRef.of (T := ⟨S64x1000000, .i32⟩) main_call0_v93) (TRef.of (T := ⟨S64x1000000, .i32⟩) main_call0_v94) xori,
    TRef.binary (TRef.of (T := ⟨S64x1000000, .i32⟩) main_call0_v88) (TRef.of (T := ⟨S64x1000000, .i32⟩) main_call0_v94) (TRef.of (T := ⟨S64x1000000, .i32⟩) main_call0_v95) addi,
    TRef.nullary (TRef.of (T := ⟨S_, .i32⟩) main_call0_c_24) (constantI S_ 32 6#32),
    TRef.unary (TRef.of (T := ⟨S_, .i32⟩) main_call0_c_24) (TRef.of (T := ⟨S64x1000000, .i32⟩) main_call0_v96) (broadcastInDim S64x1000000 ![] bcast_S_S64x1000000),
    TRef.binary (TRef.of (T := ⟨S64x1000000, .i32⟩) main_call0_v94) (TRef.of (T := ⟨S64x1000000, .i32⟩) main_call0_v96) (TRef.of (T := ⟨S64x1000000, .i32⟩) main_call0_v97) Host.shli,
    TRef.nullary (TRef.of (T := ⟨S_, .i32⟩) main_call0_c_25) (constantI S_ 32 26#32),
    TRef.unary (TRef.of (T := ⟨S_, .i32⟩) main_call0_c_25) (TRef.of (T := ⟨S64x1000000, .i32⟩) main_call0_v98) (broadcastInDim S64x1000000 ![] bcast_S_S64x1000000),
    TRef.binary (TRef.of (T := ⟨S64x1000000, .i32⟩) main_call0_v94) (TRef.of (T := ⟨S64x1000000, .i32⟩) main_call0_v98) (TRef.of (T := ⟨S64x1000000, .i32⟩) main_call0_v99) Host.shrui,
    TRef.binary (TRef.of (T := ⟨S64x1000000, .i32⟩) main_call0_v97) (TRef.of (T := ⟨S64x1000000, .i32⟩) main_call0_v99) (TRef.of (T := ⟨S64x1000000, .i32⟩) main_call0_v100) ori,
    TRef.binary (TRef.of (T := ⟨S64x1000000, .i32⟩) main_call0_v95) (TRef.of (T := ⟨S64x1000000, .i32⟩) main_call0_v100) (TRef.of (T := ⟨S64x1000000, .i32⟩) main_call0_v101) xori,
    TRef.unary (TRef.of (T := ⟨S_, .i32⟩) main_v16) (TRef.of (T := ⟨S64x1000000, .i32⟩) main_call0_v102) (broadcastInDim S64x1000000 ![] bcast_S_S64x1000000),
    TRef.binary (TRef.of (T := ⟨S64x1000000, .i32⟩) main_call0_v95) (TRef.of (T := ⟨S64x1000000, .i32⟩) main_call0_v102) (TRef.of (T := ⟨S64x1000000, .i32⟩) main_call0_v103) addi,
    TRef.unary (TRef.of (T := ⟨S_, .i32⟩) main_v18) (TRef.of (T := ⟨S64x1000000, .i32⟩) main_call0_v104) (broadcastInDim S64x1000000 ![] bcast_S_S64x1000000),
    TRef.binary (TRef.of (T := ⟨S64x1000000, .i32⟩) main_call0_v101) (TRef.of (T := ⟨S64x1000000, .i32⟩) main_call0_v104) (TRef.of (T := ⟨S64x1000000, .i32⟩) main_call0_v105) addi,
    TRef.nullary (TRef.of (T := ⟨S_, .i32⟩) main_call0_c_26) (constantI S_ 32 3#32),
    TRef.unary (TRef.of (T := ⟨S_, .i32⟩) main_call0_c_26) (TRef.of (T := ⟨S64x1000000, .i32⟩) main_call0_v106) (broadcastInDim S64x1000000 ![] bcast_S_S64x1000000),
    TRef.binary (TRef.of (T := ⟨S64x1000000, .i32⟩) main_call0_v105) (TRef.of (T := ⟨S64x1000000, .i32⟩) main_call0_v106) (TRef.of (T := ⟨S64x1000000, .i32⟩) main_call0_v107) addi,
    TRef.binary (TRef.of (T := ⟨S64x1000000, .i32⟩) main_call0_v103) (TRef.of (T := ⟨S64x1000000, .i32⟩) main_call0_v107) (TRef.of (T := ⟨S64x1000000, .i32⟩) main_call0_v108) addi,
    TRef.nullary (TRef.of (T := ⟨S_, .i32⟩) main_call0_c_27) (constantI S_ 32 17#32),
    TRef.unary (TRef.of (T := ⟨S_, .i32⟩) main_call0_c_27) (TRef.of (T := ⟨S64x1000000, .i32⟩) main_call0_v109) (broadcastInDim S64x1000000 ![] bcast_S_S64x1000000),
    TRef.binary (TRef.of (T := ⟨S64x1000000, .i32⟩) main_call0_v107) (TRef.of (T := ⟨S64x1000000, .i32⟩) main_call0_v109) (TRef.of (T := ⟨S64x1000000, .i32⟩) main_call0_v110) Host.shli,
    TRef.nullary (TRef.of (T := ⟨S_, .i32⟩) main_call0_c_28) (constantI S_ 32 15#32) ]

/-- @main's operations 181 … 210 of 292 (window `main_part0`). -/
abbrev ops_part0_6 : List (HloOp τ sig (Elt F)) :=
  [ TRef.unary (TRef.of (T := ⟨S_, .i32⟩) main_call0_c_28) (TRef.of (T := ⟨S64x1000000, .i32⟩) main_call0_v111) (broadcastInDim S64x1000000 ![] bcast_S_S64x1000000),
    TRef.binary (TRef.of (T := ⟨S64x1000000, .i32⟩) main_call0_v107) (TRef.of (T := ⟨S64x1000000, .i32⟩) main_call0_v111) (TRef.of (T := ⟨S64x1000000, .i32⟩) main_call0_v112) Host.shrui,
    TRef.binary (TRef.of (T := ⟨S64x1000000, .i32⟩) main_call0_v110) (TRef.of (T := ⟨S64x1000000, .i32⟩) main_call0_v112) (TRef.of (T := ⟨S64x1000000, .i32⟩) main_call0_v113) ori,
    TRef.binary (TRef.of (T := ⟨S64x1000000, .i32⟩) main_call0_v108) (TRef.of (T := ⟨S64x1000000, .i32⟩) main_call0_v113) (TRef.of (T := ⟨S64x1000000, .i32⟩) main_call0_v114) xori,
    TRef.binary (TRef.of (T := ⟨S64x1000000, .i32⟩) main_call0_v108) (TRef.of (T := ⟨S64x1000000, .i32⟩) main_call0_v114) (TRef.of (T := ⟨S64x1000000, .i32⟩) main_call0_v115) addi,
    TRef.nullary (TRef.of (T := ⟨S_, .i32⟩) main_call0_c_29) (constantI S_ 32 29#32),
    TRef.unary (TRef.of (T := ⟨S_, .i32⟩) main_call0_c_29) (TRef.of (T := ⟨S64x1000000, .i32⟩) main_call0_v116) (broadcastInDim S64x1000000 ![] bcast_S_S64x1000000),
    TRef.binary (TRef.of (T := ⟨S64x1000000, .i32⟩) main_call0_v114) (TRef.of (T := ⟨S64x1000000, .i32⟩) main_call0_v116) (TRef.of (T := ⟨S64x1000000, .i32⟩) main_call0_v117) Host.shli,
    TRef.nullary (TRef.of (T := ⟨S_, .i32⟩) main_call0_c_30) (constantI S_ 32 3#32),
    TRef.unary (TRef.of (T := ⟨S_, .i32⟩) main_call0_c_30) (TRef.of (T := ⟨S64x1000000, .i32⟩) main_call0_v118) (broadcastInDim S64x1000000 ![] bcast_S_S64x1000000),
    TRef.binary (TRef.of (T := ⟨S64x1000000, .i32⟩) main_call0_v114) (TRef.of (T := ⟨S64x1000000, .i32⟩) main_call0_v118) (TRef.of (T := ⟨S64x1000000, .i32⟩) main_call0_v119) Host.shrui,
    TRef.binary (TRef.of (T := ⟨S64x1000000, .i32⟩) main_call0_v117) (TRef.of (T := ⟨S64x1000000, .i32⟩) main_call0_v119) (TRef.of (T := ⟨S64x1000000, .i32⟩) main_call0_v120) ori,
    TRef.binary (TRef.of (T := ⟨S64x1000000, .i32⟩) main_call0_v115) (TRef.of (T := ⟨S64x1000000, .i32⟩) main_call0_v120) (TRef.of (T := ⟨S64x1000000, .i32⟩) main_call0_v121) xori,
    TRef.binary (TRef.of (T := ⟨S64x1000000, .i32⟩) main_call0_v115) (TRef.of (T := ⟨S64x1000000, .i32⟩) main_call0_v121) (TRef.of (T := ⟨S64x1000000, .i32⟩) main_call0_v122) addi,
    TRef.nullary (TRef.of (T := ⟨S_, .i32⟩) main_call0_c_31) (constantI S_ 32 16#32),
    TRef.unary (TRef.of (T := ⟨S_, .i32⟩) main_call0_c_31) (TRef.of (T := ⟨S64x1000000, .i32⟩) main_call0_v123) (broadcastInDim S64x1000000 ![] bcast_S_S64x1000000),
    TRef.binary (TRef.of (T := ⟨S64x1000000, .i32⟩) main_call0_v121) (TRef.of (T := ⟨S64x1000000, .i32⟩) main_call0_v123) (TRef.of (T := ⟨S64x1000000, .i32⟩) main_call0_v124) Host.shli,
    TRef.nullary (TRef.of (T := ⟨S_, .i32⟩) main_call0_c_32) (constantI S_ 32 16#32),
    TRef.unary (TRef.of (T := ⟨S_, .i32⟩) main_call0_c_32) (TRef.of (T := ⟨S64x1000000, .i32⟩) main_call0_v125) (broadcastInDim S64x1000000 ![] bcast_S_S64x1000000),
    TRef.binary (TRef.of (T := ⟨S64x1000000, .i32⟩) main_call0_v121) (TRef.of (T := ⟨S64x1000000, .i32⟩) main_call0_v125) (TRef.of (T := ⟨S64x1000000, .i32⟩) main_call0_v126) Host.shrui,
    TRef.binary (TRef.of (T := ⟨S64x1000000, .i32⟩) main_call0_v124) (TRef.of (T := ⟨S64x1000000, .i32⟩) main_call0_v126) (TRef.of (T := ⟨S64x1000000, .i32⟩) main_call0_v127) ori,
    TRef.binary (TRef.of (T := ⟨S64x1000000, .i32⟩) main_call0_v122) (TRef.of (T := ⟨S64x1000000, .i32⟩) main_call0_v127) (TRef.of (T := ⟨S64x1000000, .i32⟩) main_call0_v128) xori,
    TRef.binary (TRef.of (T := ⟨S64x1000000, .i32⟩) main_call0_v122) (TRef.of (T := ⟨S64x1000000, .i32⟩) main_call0_v128) (TRef.of (T := ⟨S64x1000000, .i32⟩) main_call0_v129) addi,
    TRef.nullary (TRef.of (T := ⟨S_, .i32⟩) main_call0_c_33) (constantI S_ 32 24#32),
    TRef.unary (TRef.of (T := ⟨S_, .i32⟩) main_call0_c_33) (TRef.of (T := ⟨S64x1000000, .i32⟩) main_call0_v130) (broadcastInDim S64x1000000 ![] bcast_S_S64x1000000),
    TRef.binary (TRef.of (T := ⟨S64x1000000, .i32⟩) main_call0_v128) (TRef.of (T := ⟨S64x1000000, .i32⟩) main_call0_v130) (TRef.of (T := ⟨S64x1000000, .i32⟩) main_call0_v131) Host.shli,
    TRef.nullary (TRef.of (T := ⟨S_, .i32⟩) main_call0_c_34) (constantI S_ 32 8#32),
    TRef.unary (TRef.of (T := ⟨S_, .i32⟩) main_call0_c_34) (TRef.of (T := ⟨S64x1000000, .i32⟩) main_call0_v132) (broadcastInDim S64x1000000 ![] bcast_S_S64x1000000),
    TRef.binary (TRef.of (T := ⟨S64x1000000, .i32⟩) main_call0_v128) (TRef.of (T := ⟨S64x1000000, .i32⟩) main_call0_v132) (TRef.of (T := ⟨S64x1000000, .i32⟩) main_call0_v133) Host.shrui,
    TRef.binary (TRef.of (T := ⟨S64x1000000, .i32⟩) main_call0_v131) (TRef.of (T := ⟨S64x1000000, .i32⟩) main_call0_v133) (TRef.of (T := ⟨S64x1000000, .i32⟩) main_call0_v134) ori ]

/-- @main's operations 211 … 240 of 292 (window `main_part0`). -/
abbrev ops_part0_7 : List (HloOp τ sig (Elt F)) :=
  [ TRef.binary (TRef.of (T := ⟨S64x1000000, .i32⟩) main_call0_v129) (TRef.of (T := ⟨S64x1000000, .i32⟩) main_call0_v134) (TRef.of (T := ⟨S64x1000000, .i32⟩) main_call0_v135) xori,
    TRef.unary (TRef.of (T := ⟨S_, .i32⟩) main_v18) (TRef.of (T := ⟨S64x1000000, .i32⟩) main_call0_v136) (broadcastInDim S64x1000000 ![] bcast_S_S64x1000000),
    TRef.binary (TRef.of (T := ⟨S64x1000000, .i32⟩) main_call0_v129) (TRef.of (T := ⟨S64x1000000, .i32⟩) main_call0_v136) (TRef.of (T := ⟨S64x1000000, .i32⟩) main_call0_v137) addi,
    TRef.unary (TRef.of (T := ⟨S_, .i32⟩) main_call0_v1) (TRef.of (T := ⟨S64x1000000, .i32⟩) main_call0_v138) (broadcastInDim S64x1000000 ![] bcast_S_S64x1000000),
    TRef.binary (TRef.of (T := ⟨S64x1000000, .i32⟩) main_call0_v135) (TRef.of (T := ⟨S64x1000000, .i32⟩) main_call0_v138) (TRef.of (T := ⟨S64x1000000, .i32⟩) main_call0_v139) addi,
    TRef.nullary (TRef.of (T := ⟨S_, .i32⟩) main_call0_c_35) (constantI S_ 32 4#32),
    TRef.unary (TRef.of (T := ⟨S_, .i32⟩) main_call0_c_35) (TRef.of (T := ⟨S64x1000000, .i32⟩) main_call0_v140) (broadcastInDim S64x1000000 ![] bcast_S_S64x1000000),
    TRef.binary (TRef.of (T := ⟨S64x1000000, .i32⟩) main_call0_v139) (TRef.of (T := ⟨S64x1000000, .i32⟩) main_call0_v140) (TRef.of (T := ⟨S64x1000000, .i32⟩) main_call0_v141) addi,
    TRef.binary (TRef.of (T := ⟨S64x1000000, .i32⟩) main_call0_v137) (TRef.of (T := ⟨S64x1000000, .i32⟩) main_call0_v141) (TRef.of (T := ⟨S64x1000000, .i32⟩) main_call0_v142) addi,
    TRef.nullary (TRef.of (T := ⟨S_, .i32⟩) main_call0_c_36) (constantI S_ 32 13#32),
    TRef.unary (TRef.of (T := ⟨S_, .i32⟩) main_call0_c_36) (TRef.of (T := ⟨S64x1000000, .i32⟩) main_call0_v143) (broadcastInDim S64x1000000 ![] bcast_S_S64x1000000),
    TRef.binary (TRef.of (T := ⟨S64x1000000, .i32⟩) main_call0_v141) (TRef.of (T := ⟨S64x1000000, .i32⟩) main_call0_v143) (TRef.of (T := ⟨S64x1000000, .i32⟩) main_call0_v144) Host.shli,
    TRef.nullary (TRef.of (T := ⟨S_, .i32⟩) main_call0_c_37) (constantI S_ 32 19#32),
    TRef.unary (TRef.of (T := ⟨S_, .i32⟩) main_call0_c_37) (TRef.of (T := ⟨S64x1000000, .i32⟩) main_call0_v145) (broadcastInDim S64x1000000 ![] bcast_S_S64x1000000),
    TRef.binary (TRef.of (T := ⟨S64x1000000, .i32⟩) main_call0_v141) (TRef.of (T := ⟨S64x1000000, .i32⟩) main_call0_v145) (TRef.of (T := ⟨S64x1000000, .i32⟩) main_call0_v146) Host.shrui,
    TRef.binary (TRef.of (T := ⟨S64x1000000, .i32⟩) main_call0_v144) (TRef.of (T := ⟨S64x1000000, .i32⟩) main_call0_v146) (TRef.of (T := ⟨S64x1000000, .i32⟩) main_call0_v147) ori,
    TRef.binary (TRef.of (T := ⟨S64x1000000, .i32⟩) main_call0_v142) (TRef.of (T := ⟨S64x1000000, .i32⟩) main_call0_v147) (TRef.of (T := ⟨S64x1000000, .i32⟩) main_call0_v148) xori,
    TRef.binary (TRef.of (T := ⟨S64x1000000, .i32⟩) main_call0_v142) (TRef.of (T := ⟨S64x1000000, .i32⟩) main_call0_v148) (TRef.of (T := ⟨S64x1000000, .i32⟩) main_call0_v149) addi,
    TRef.nullary (TRef.of (T := ⟨S_, .i32⟩) main_call0_c_38) (constantI S_ 32 15#32),
    TRef.unary (TRef.of (T := ⟨S_, .i32⟩) main_call0_c_38) (TRef.of (T := ⟨S64x1000000, .i32⟩) main_call0_v150) (broadcastInDim S64x1000000 ![] bcast_S_S64x1000000),
    TRef.binary (TRef.of (T := ⟨S64x1000000, .i32⟩) main_call0_v148) (TRef.of (T := ⟨S64x1000000, .i32⟩) main_call0_v150) (TRef.of (T := ⟨S64x1000000, .i32⟩) main_call0_v151) Host.shli,
    TRef.nullary (TRef.of (T := ⟨S_, .i32⟩) main_call0_c_39) (constantI S_ 32 17#32),
    TRef.unary (TRef.of (T := ⟨S_, .i32⟩) main_call0_c_39) (TRef.of (T := ⟨S64x1000000, .i32⟩) main_call0_v152) (broadcastInDim S64x1000000 ![] bcast_S_S64x1000000),
    TRef.binary (TRef.of (T := ⟨S64x1000000, .i32⟩) main_call0_v148) (TRef.of (T := ⟨S64x1000000, .i32⟩) main_call0_v152) (TRef.of (T := ⟨S64x1000000, .i32⟩) main_call0_v153) Host.shrui,
    TRef.binary (TRef.of (T := ⟨S64x1000000, .i32⟩) main_call0_v151) (TRef.of (T := ⟨S64x1000000, .i32⟩) main_call0_v153) (TRef.of (T := ⟨S64x1000000, .i32⟩) main_call0_v154) ori,
    TRef.binary (TRef.of (T := ⟨S64x1000000, .i32⟩) main_call0_v149) (TRef.of (T := ⟨S64x1000000, .i32⟩) main_call0_v154) (TRef.of (T := ⟨S64x1000000, .i32⟩) main_call0_v155) xori,
    TRef.binary (TRef.of (T := ⟨S64x1000000, .i32⟩) main_call0_v149) (TRef.of (T := ⟨S64x1000000, .i32⟩) main_call0_v155) (TRef.of (T := ⟨S64x1000000, .i32⟩) main_call0_v156) addi,
    TRef.nullary (TRef.of (T := ⟨S_, .i32⟩) main_call0_c_40) (constantI S_ 32 26#32),
    TRef.unary (TRef.of (T := ⟨S_, .i32⟩) main_call0_c_40) (TRef.of (T := ⟨S64x1000000, .i32⟩) main_call0_v157) (broadcastInDim S64x1000000 ![] bcast_S_S64x1000000),
    TRef.binary (TRef.of (T := ⟨S64x1000000, .i32⟩) main_call0_v155) (TRef.of (T := ⟨S64x1000000, .i32⟩) main_call0_v157) (TRef.of (T := ⟨S64x1000000, .i32⟩) main_call0_v158) Host.shli ]

/-- @main's operations 241 … 270 of 292 (window `main_part0`). -/
abbrev ops_part0_8 : List (HloOp τ sig (Elt F)) :=
  [ TRef.nullary (TRef.of (T := ⟨S_, .i32⟩) main_call0_c_41) (constantI S_ 32 6#32),
    TRef.unary (TRef.of (T := ⟨S_, .i32⟩) main_call0_c_41) (TRef.of (T := ⟨S64x1000000, .i32⟩) main_call0_v159) (broadcastInDim S64x1000000 ![] bcast_S_S64x1000000),
    TRef.binary (TRef.of (T := ⟨S64x1000000, .i32⟩) main_call0_v155) (TRef.of (T := ⟨S64x1000000, .i32⟩) main_call0_v159) (TRef.of (T := ⟨S64x1000000, .i32⟩) main_call0_v160) Host.shrui,
    TRef.binary (TRef.of (T := ⟨S64x1000000, .i32⟩) main_call0_v158) (TRef.of (T := ⟨S64x1000000, .i32⟩) main_call0_v160) (TRef.of (T := ⟨S64x1000000, .i32⟩) main_call0_v161) ori,
    TRef.binary (TRef.of (T := ⟨S64x1000000, .i32⟩) main_call0_v156) (TRef.of (T := ⟨S64x1000000, .i32⟩) main_call0_v161) (TRef.of (T := ⟨S64x1000000, .i32⟩) main_call0_v162) xori,
    TRef.binary (TRef.of (T := ⟨S64x1000000, .i32⟩) main_call0_v156) (TRef.of (T := ⟨S64x1000000, .i32⟩) main_call0_v162) (TRef.of (T := ⟨S64x1000000, .i32⟩) main_call0_v163) addi,
    TRef.nullary (TRef.of (T := ⟨S_, .i32⟩) main_call0_c_42) (constantI S_ 32 6#32),
    TRef.unary (TRef.of (T := ⟨S_, .i32⟩) main_call0_c_42) (TRef.of (T := ⟨S64x1000000, .i32⟩) main_call0_v164) (broadcastInDim S64x1000000 ![] bcast_S_S64x1000000),
    TRef.binary (TRef.of (T := ⟨S64x1000000, .i32⟩) main_call0_v162) (TRef.of (T := ⟨S64x1000000, .i32⟩) main_call0_v164) (TRef.of (T := ⟨S64x1000000, .i32⟩) main_call0_v165) Host.shli,
    TRef.nullary (TRef.of (T := ⟨S_, .i32⟩) main_call0_c_43) (constantI S_ 32 26#32),
    TRef.unary (TRef.of (T := ⟨S_, .i32⟩) main_call0_c_43) (TRef.of (T := ⟨S64x1000000, .i32⟩) main_call0_v166) (broadcastInDim S64x1000000 ![] bcast_S_S64x1000000),
    TRef.binary (TRef.of (T := ⟨S64x1000000, .i32⟩) main_call0_v162) (TRef.of (T := ⟨S64x1000000, .i32⟩) main_call0_v166) (TRef.of (T := ⟨S64x1000000, .i32⟩) main_call0_v167) Host.shrui,
    TRef.binary (TRef.of (T := ⟨S64x1000000, .i32⟩) main_call0_v165) (TRef.of (T := ⟨S64x1000000, .i32⟩) main_call0_v167) (TRef.of (T := ⟨S64x1000000, .i32⟩) main_call0_v168) ori,
    TRef.binary (TRef.of (T := ⟨S64x1000000, .i32⟩) main_call0_v163) (TRef.of (T := ⟨S64x1000000, .i32⟩) main_call0_v168) (TRef.of (T := ⟨S64x1000000, .i32⟩) main_call0_v169) xori,
    TRef.unary (TRef.of (T := ⟨S_, .i32⟩) main_call0_v1) (TRef.of (T := ⟨S64x1000000, .i32⟩) main_call0_v170) (broadcastInDim S64x1000000 ![] bcast_S_S64x1000000),
    TRef.binary (TRef.of (T := ⟨S64x1000000, .i32⟩) main_call0_v163) (TRef.of (T := ⟨S64x1000000, .i32⟩) main_call0_v170) (TRef.of (T := ⟨S64x1000000, .i32⟩) main_v30_0) addi,
    TRef.unary (TRef.of (T := ⟨S_, .i32⟩) main_v16) (TRef.of (T := ⟨S64x1000000, .i32⟩) main_call0_v172) (broadcastInDim S64x1000000 ![] bcast_S_S64x1000000),
    TRef.binary (TRef.of (T := ⟨S64x1000000, .i32⟩) main_call0_v169) (TRef.of (T := ⟨S64x1000000, .i32⟩) main_call0_v172) (TRef.of (T := ⟨S64x1000000, .i32⟩) main_call0_v173) addi,
    TRef.nullary (TRef.of (T := ⟨S_, .i32⟩) main_call0_c_44) (constantI S_ 32 5#32),
    TRef.unary (TRef.of (T := ⟨S_, .i32⟩) main_call0_c_44) (TRef.of (T := ⟨S64x1000000, .i32⟩) main_call0_v174) (broadcastInDim S64x1000000 ![] bcast_S_S64x1000000),
    TRef.binary (TRef.of (T := ⟨S64x1000000, .i32⟩) main_call0_v173) (TRef.of (T := ⟨S64x1000000, .i32⟩) main_call0_v174) (TRef.of (T := ⟨S64x1000000, .i32⟩) main_v30_1) addi,
    binary main_v30_0 main_v30_1 main_v31 (xori : (⟨S64x1000000, .i32⟩ : BufTy).Contents (Elt F) → (⟨S64x1000000, .i32⟩ : BufTy).Contents (Elt F) → (⟨S64x1000000, .i32⟩ : BufTy).Contents (Elt F)),
    nullary main_c_7 (constantI S_ 32 9#32),
    unary main_c_7 main_v32 (broadcastInDim S64x1000000 ![] bcast_S_S64x1000000 : (⟨S_, .i32⟩ : BufTy).Contents (Elt F) → (⟨S64x1000000, .i32⟩ : BufTy).Contents (Elt F)),
    binary main_v31 main_v32 main_v33 (Host.shrui : (⟨S64x1000000, .i32⟩ : BufTy).Contents (Elt F) → (⟨S64x1000000, .i32⟩ : BufTy).Contents (Elt F) → (⟨S64x1000000, .i32⟩ : BufTy).Contents (Elt F)),
    nullary main_c_8 (constantI S_ 32 1065353216#32),
    unary main_c_8 main_v34 (broadcastInDim S64x1000000 ![] bcast_S_S64x1000000 : (⟨S_, .i32⟩ : BufTy).Contents (Elt F) → (⟨S64x1000000, .i32⟩ : BufTy).Contents (Elt F)),
    binary main_v33 main_v34 main_v35 (ori : (⟨S64x1000000, .i32⟩ : BufTy).Contents (Elt F) → (⟨S64x1000000, .i32⟩ : BufTy).Contents (Elt F) → (⟨S64x1000000, .i32⟩ : BufTy).Contents (Elt F)),
    unary main_v35 main_v36 (bitcastToFloat (F := F) .f32 : (⟨S64x1000000, .i32⟩ : BufTy).Contents (Elt F) → (⟨S64x1000000, .f32⟩ : BufTy).Contents (Elt F)),
    nullary main_cst_9 (constant S_ .f32 0x3F800000#32) ]

/-- @main's operations 271 … 281 of 292 (window `main_part0`). -/
abbrev ops_part0_9 : List (HloOp τ sig (Elt F)) :=
  [ unary main_cst_9 main_v37 (broadcastInDim S64x1000000 ![] bcast_S_S64x1000000 : (⟨S_, .f32⟩ : BufTy).Contents (Elt F) → (⟨S64x1000000, .f32⟩ : BufTy).Contents (Elt F)),
    binary main_v36 main_v37 main_v38 (subf : (⟨S64x1000000, .f32⟩ : BufTy).Contents (Elt F) → (⟨S64x1000000, .f32⟩ : BufTy).Contents (Elt F) → (⟨S64x1000000, .f32⟩ : BufTy).Contents (Elt F)),
    nullary main_cst_10 (constant S_ .f32 0x3F800000#32),
    unary main_cst_10 main_v39 (broadcastInDim S64x1000000 ![] bcast_S_S64x1000000 : (⟨S_, .f32⟩ : BufTy).Contents (Elt F) → (⟨S64x1000000, .f32⟩ : BufTy).Contents (Elt F)),
    binary main_v38 main_v39 main_v40 (mulf : (⟨S64x1000000, .f32⟩ : BufTy).Contents (Elt F) → (⟨S64x1000000, .f32⟩ : BufTy).Contents (Elt F) → (⟨S64x1000000, .f32⟩ : BufTy).Contents (Elt F)),
    nullary main_cst_11 (constant S_ .f32 0x00800000#32),
    unary main_cst_11 main_v41 (broadcastInDim S64x1000000 ![] bcast_S_S64x1000000 : (⟨S_, .f32⟩ : BufTy).Contents (Elt F) → (⟨S64x1000000, .f32⟩ : BufTy).Contents (Elt F)),
    binary main_v40 main_v41 main_v42 (addf : (⟨S64x1000000, .f32⟩ : BufTy).Contents (Elt F) → (⟨S64x1000000, .f32⟩ : BufTy).Contents (Elt F) → (⟨S64x1000000, .f32⟩ : BufTy).Contents (Elt F)),
    nullary main_cst_12 (constant S_ .f32 0x00800000#32),
    unary main_cst_12 main_v43 (broadcastInDim S64x1000000 ![] bcast_S_S64x1000000 : (⟨S_, .f32⟩ : BufTy).Contents (Elt F) → (⟨S64x1000000, .f32⟩ : BufTy).Contents (Elt F)),
    binary main_v43 main_v42 main_v44 (maximumf : (⟨S64x1000000, .f32⟩ : BufTy).Contents (Elt F) → (⟨S64x1000000, .f32⟩ : BufTy).Contents (Elt F) → (⟨S64x1000000, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9)))))))))

/-- @main's operations 282 … 292 of 292 (window `main_part1`). -/
abbrev ops_part1 : List (HloOp τ sig (Elt F)) :=
  [ unary main_v44 main_v45 (Host.log : (⟨S64x1000000, .f32⟩ : BufTy).Contents (Elt F) → (⟨S64x1000000, .f32⟩ : BufTy).Contents (Elt F)),
    unary main_v45 main_v46 (Host.negf : (⟨S64x1000000, .f32⟩ : BufTy).Contents (Elt F) → (⟨S64x1000000, .f32⟩ : BufTy).Contents (Elt F)),
    unary main_v46 main_v47 (Host.log : (⟨S64x1000000, .f32⟩ : BufTy).Contents (Elt F) → (⟨S64x1000000, .f32⟩ : BufTy).Contents (Elt F)),
    unary main_v47 main_v48 (Host.negf : (⟨S64x1000000, .f32⟩ : BufTy).Contents (Elt F) → (⟨S64x1000000, .f32⟩ : BufTy).Contents (Elt F)),
    binary main_v48 main_v7 main_v49 (addf : (⟨S64x1000000, .f32⟩ : BufTy).Contents (Elt F) → (⟨S64x1000000, .f32⟩ : BufTy).Contents (Elt F) → (⟨S64x1000000, .f32⟩ : BufTy).Contents (Elt F)),
    TRef.nullary (TRef.of (T := ⟨S64x1000000, .i32⟩) main_call1_v0) (iotaInDim S64x1000000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S64x1000000, .f32⟩) main_v49) (TRef.of (T := ⟨S64x1000000, .i32⟩) main_call1_v0) (TRef.of (T := ⟨S_, .f32⟩) main_call1_cst) (TRef.of (T := ⟨S_, .i32⟩) main_call1_c) (TRef.of (T := ⟨S64, .f32⟩) main_call1_v1_0) (fun x y u v => (fun j => (Host.argReduce reducer_argmax_f32_i32 x y u v reducesTo_S64x1000000_S64_d1 h_S_ j).1)),
    TRef.quaternary (TRef.of (T := ⟨S64x1000000, .f32⟩) main_v49) (TRef.of (T := ⟨S64x1000000, .i32⟩) main_call1_v0) (TRef.of (T := ⟨S_, .f32⟩) main_call1_cst) (TRef.of (T := ⟨S_, .i32⟩) main_call1_c) (TRef.of (T := ⟨S64, .i32⟩) main_v50) (fun x y u v => (fun j => (Host.argReduce reducer_argmax_f32_i32 x y u v reducesTo_S64x1000000_S64_d1 h_S_ j).2)),
    unary main_v50 main_v51 (broadcastInDim S64x1 ![0] bcast_S64_S64x1_0 : (⟨S64, .i32⟩ : BufTy).Contents (Elt F) → (⟨S64x1, .i32⟩ : BufTy).Contents (Elt F)) ]

/-- @main's 292 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., binary_bufs_sub .., nullary_bufs_sub .., binary_bufs_sub .., unary_bufs_sub .., unary_bufs_sub .., binary_bufs_sub .., nullary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., unary_bufs_sub .., reshape_bufs_sub .., unary_bufs_sub .., reshape_bufs_sub .., nullary_bufs_sub .., nullary_bufs_sub .., nullary_bufs_sub .., unary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., unary_bufs_sub .., unary_bufs_sub .., unary_bufs_sub .., binary_bufs_sub .., nullary_bufs_sub .., nullary_bufs_sub .., nullary_bufs_sub .., quaternary_bufs_sub .., quaternary_bufs_sub .., unary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part1_fresh op h]

end Cert.ReferenceIdeal.Value

end
-- ==== Proof.ReferenceRun.lean ====
/- What the reference computes: every execution of its @main ends with the result at one term of the argument (the
   intermediate values that are used more than once are named), and with the argument unchanged. -/
module

public import proofs.«01_k».proof.Proof.ReferenceOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v1`'s composed term of the arguments (named: it is used 2 times). -/
def res_main_v1 (V0 : Valuation τ sig (Elt F)) : (Proc.devRef .tc main_v1 : DevRef τ sig).ty.Contents (Elt F) :=
  minimumf (V0 (Proc.devRef .tc main_arg0)) (broadcastInDim S64x1000000 ![] bcast_S_S64x1000000 (constant S_ .f32 0x42200000#32))

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v14`'s composed term of the arguments (named: it is used 2 times). -/
def res_main_v14 (V0 : Valuation τ sig (Elt F)) : (Proc.devRef .tc main_v14 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_v16`'s composed term of the arguments (named: it is used 5 times). -/
def res_main_v16 (V0 : Valuation τ sig (Elt F)) : (Proc.devRef .tc main_v16 : DevRef τ sig).ty.Contents (Elt F) :=
  shapeCast _ (extractStridedSlice S1 ![0] (res_main_v14 V0) slices_S2_S1_0) shapeCasts_S1_S_

set_option maxRecDepth 8192 in
/-- `main_v18`'s composed term of the arguments (named: it is used 5 times). -/
def res_main_v18 (V0 : Valuation τ sig (Elt F)) : (Proc.devRef .tc main_v18 : DevRef τ sig).ty.Contents (Elt F) :=
  shapeCast _ (extractStridedSlice S1 ![1] (res_main_v14 V0) slices_S2_S1_1) shapeCasts_S1_S_

set_option maxRecDepth 8192 in
/-- `main_v25`'s composed term of the arguments (named: it is used 2 times). -/
def res_main_v25 (V0 : Valuation τ sig (Elt F)) : (Proc.devRef .tc main_v25 : DevRef τ sig).ty.Contents (Elt F) :=
  addi (muli (broadcastInDim S64x1000000 ![] bcast_S_S64x1000000 (constantI S_ 64 1000000#64)) (iotaInDim S64x1000000 64 0)) (muli (broadcastInDim S64x1000000 ![] bcast_S_S64x1000000 (constantI S_ 64 1#64)) (iotaInDim S64x1000000 64 1))

set_option maxRecDepth 8192 in
/-- `main_call0_v1`'s composed term of the arguments (named: it is used 4 times). -/
def res_main_call0_v1 (V0 : Valuation τ sig (Elt F)) : (Proc.devRef .tc main_call0_v1 : DevRef τ sig).ty.Contents (Elt F) :=
  xori (xori (res_main_v16 V0) (res_main_v18 V0)) (constantI S_ 32 466688986#32)

set_option maxRecDepth 8192 in
/-- `main_call0_v5`'s composed term of the arguments (named: it is used 3 times). -/
def res_main_call0_v5 (V0 : Valuation τ sig (Elt F)) : (Proc.devRef .tc main_call0_v5 : DevRef τ sig).ty.Contents (Elt F) :=
  addi (trunci 32 (res_main_v25 V0) natLt_32_64) (broadcastInDim S64x1000000 ![] bcast_S_S64x1000000 (res_main_v18 V0))

set_option maxRecDepth 8192 in
/-- `main_call0_v6`'s composed term of the arguments (named: it is used 2 times). -/
def res_main_call0_v6 (V0 : Valuation τ sig (Elt F)) : (Proc.devRef .tc main_call0_v6 : DevRef τ sig).ty.Contents (Elt F) :=
  addi (addi (trunci 32 (Host.shrui (res_main_v25 V0) (broadcastInDim S64x1000000 ![] bcast_S_S64x1000000 (constantI S_ 64 32#64))) natLt_32_64) (broadcastInDim S64x1000000 ![] bcast_S_S64x1000000 (res_main_v16 V0))) (res_main_call0_v5 V0)

set_option maxRecDepth 8192 in
/-- `main_call0_v12`'s composed term of the arguments (named: it is used 3 times). -/
def res_main_call0_v12 (V0 : Valuation τ sig (Elt F)) : (Proc.devRef .tc main_call0_v12 : DevRef τ sig).ty.Contents (Elt F) :=
  xori (res_main_call0_v6 V0) (ori (Host.shli (res_main_call0_v5 V0) (broadcastInDim S64x1000000 ![] bcast_S_S64x1000000 (constantI S_ 32 13#32))) (Host.shrui (res_main_call0_v5 V0) (broadcastInDim S64x1000000 ![] bcast_S_S64x1000000 (constantI S_ 32 19#32))))

set_option maxRecDepth 8192 in
/-- `main_call0_v13`'s composed term of the arguments (named: it is used 2 times). -/
def res_main_call0_v13 (V0 : Valuation τ sig (Elt F)) : (Proc.devRef .tc main_call0_v13 : DevRef τ sig).ty.Contents (Elt F) :=
  addi (res_main_call0_v6 V0) (res_main_call0_v12 V0)

set_option maxRecDepth 8192 in
/-- `main_call0_v19`'s composed term of the arguments (named: it is used 3 times). -/
def res_main_call0_v19 (V0 : Valuation τ sig (Elt F)) : (Proc.devRef .tc main_call0_v19 : DevRef τ sig).ty.Contents (Elt F) :=
  xori (res_main_call0_v13 V0) (ori (Host.shli (res_main_call0_v12 V0) (broadcastInDim S64x1000000 ![] bcast_S_S64x1000000 (constantI S_ 32 15#32))) (Host.shrui (res_main_call0_v12 V0) (broadcastInDim S64x1000000 ![] bcast_S_S64x1000000 (constantI S_ 32 17#32))))

set_option maxRecDepth 8192 in
/-- `main_call0_v20`'s composed term of the arguments (named: it is used 2 times). -/
def res_main_call0_v20 (V0 : Valuation τ sig (Elt F)) : (Proc.devRef .tc main_call0_v20 : DevRef τ sig).ty.Contents (Elt F) :=
  addi (res_main_call0_v13 V0) (res_main_call0_v19 V0)

set_option maxRecDepth 8192 in
/-- `main_call0_v26`'s composed term of the arguments (named: it is used 3 times). -/
def res_main_call0_v26 (V0 : Valuation τ sig (Elt F)) : (Proc.devRef .tc main_call0_v26 : DevRef τ sig).ty.Contents (Elt F) :=
  xori (res_main_call0_v20 V0) (ori (Host.shli (res_main_call0_v19 V0) (broadcastInDim S64x1000000 ![] bcast_S_S64x1000000 (constantI S_ 32 26#32))) (Host.shrui (res_main_call0_v19 V0) (broadcastInDim S64x1000000 ![] bcast_S_S64x1000000 (constantI S_ 32 6#32))))

set_option maxRecDepth 8192 in
/-- `main_call0_v27`'s composed term of the arguments (named: it is used 2 times). -/
def res_main_call0_v27 (V0 : Valuation τ sig (Elt F)) : (Proc.devRef .tc main_call0_v27 : DevRef τ sig).ty.Contents (Elt F) :=
  addi (res_main_call0_v20 V0) (res_main_call0_v26 V0)

set_option maxRecDepth 8192 in
/-- `main_call0_v39`'s composed term of the arguments (named: it is used 3 times). -/
def res_main_call0_v39 (V0 : Valuation τ sig (Elt F)) : (Proc.devRef .tc main_call0_v39 : DevRef τ sig).ty.Contents (Elt F) :=
  addi (addi (xori (res_main_call0_v27 V0) (ori (Host.shli (res_main_call0_v26 V0) (broadcastInDim S64x1000000 ![] bcast_S_S64x1000000 (constantI S_ 32 6#32))) (Host.shrui (res_main_call0_v26 V0) (broadcastInDim S64x1000000 ![] bcast_S_S64x1000000 (constantI S_ 32 26#32))))) (broadcastInDim S64x1000000 ![] bcast_S_S64x1000000 (res_main_call0_v1 V0))) (broadcastInDim S64x1000000 ![] bcast_S_S64x1000000 (constantI S_ 32 1#32))

set_option maxRecDepth 8192 in
/-- `main_call0_v40`'s composed term of the arguments (named: it is used 2 times). -/
def res_main_call0_v40 (V0 : Valuation τ sig (Elt F)) : (Proc.devRef .tc main_call0_v40 : DevRef τ sig).ty.Contents (Elt F) :=
  addi (addi (res_main_call0_v27 V0) (broadcastInDim S64x1000000 ![] bcast_S_S64x1000000 (res_main_v18 V0))) (res_main_call0_v39 V0)

set_option maxRecDepth 8192 in
/-- `main_call0_v46`'s composed term of the arguments (named: it is used 3 times). -/
def res_main_call0_v46 (V0 : Valuation τ sig (Elt F)) : (Proc.devRef .tc main_call0_v46 : DevRef τ sig).ty.Contents (Elt F) :=
  xori (res_main_call0_v40 V0) (ori (Host.shli (res_main_call0_v39 V0) (broadcastInDim S64x1000000 ![] bcast_S_S64x1000000 (constantI S_ 32 17#32))) (Host.shrui (res_main_call0_v39 V0) (broadcastInDim S64x1000000 ![] bcast_S_S64x1000000 (constantI S_ 32 15#32))))

set_option maxRecDepth 8192 in
/-- `main_call0_v47`'s composed term of the arguments (named: it is used 2 times). -/
def res_main_call0_v47 (V0 : Valuation τ sig (Elt F)) : (Proc.devRef .tc main_call0_v47 : DevRef τ sig).ty.Contents (Elt F) :=
  addi (res_main_call0_v40 V0) (res_main_call0_v46 V0)

set_option maxRecDepth 8192 in
/-- `main_call0_v53`'s composed term of the arguments (named: it is used 3 times). -/
def res_main_call0_v53 (V0 : Valuation τ sig (Elt F)) : (Proc.devRef .tc main_call0_v53 : DevRef τ sig).ty.Contents (Elt F) :=
  xori (res_main_call0_v47 V0) (ori (Host.shli (res_main_call0_v46 V0) (broadcastInDim S64x1000000 ![] bcast_S_S64x1000000 (constantI S_ 32 29#32))) (Host.shrui (res_main_call0_v46 V0) (broadcastInDim S64x1000000 ![] bcast_S_S64x1000000 (constantI S_ 32 3#32))))

set_option maxRecDepth 8192 in
/-- `main_call0_v54`'s composed term of the arguments (named: it is used 2 times). -/
def res_main_call0_v54 (V0 : Valuation τ sig (Elt F)) : (Proc.devRef .tc main_call0_v54 : DevRef τ sig).ty.Contents (Elt F) :=
  addi (res_main_call0_v47 V0) (res_main_call0_v53 V0)

set_option maxRecDepth 8192 in
/-- `main_call0_v60`'s composed term of the arguments (named: it is used 3 times). -/
def res_main_call0_v60 (V0 : Valuation τ sig (Elt F)) : (Proc.devRef .tc main_call0_v60 : DevRef τ sig).ty.Contents (Elt F) :=
  xori (res_main_call0_v54 V0) (ori (Host.shli (res_main_call0_v53 V0) (broadcastInDim S64x1000000 ![] bcast_S_S64x1000000 (constantI S_ 32 16#32))) (Host.shrui (res_main_call0_v53 V0) (broadcastInDim S64x1000000 ![] bcast_S_S64x1000000 (constantI S_ 32 16#32))))

set_option maxRecDepth 8192 in
/-- `main_call0_v61`'s composed term of the arguments (named: it is used 2 times). -/
def res_main_call0_v61 (V0 : Valuation τ sig (Elt F)) : (Proc.devRef .tc main_call0_v61 : DevRef τ sig).ty.Contents (Elt F) :=
  addi (res_main_call0_v54 V0) (res_main_call0_v60 V0)

set_option maxRecDepth 8192 in
/-- `main_call0_v73`'s composed term of the arguments (named: it is used 3 times). -/
def res_main_call0_v73 (V0 : Valuation τ sig (Elt F)) : (Proc.devRef .tc main_call0_v73 : DevRef τ sig).ty.Contents (Elt F) :=
  addi (addi (xori (res_main_call0_v61 V0) (ori (Host.shli (res_main_call0_v60 V0) (broadcastInDim S64x1000000 ![] bcast_S_S64x1000000 (constantI S_ 32 24#32))) (Host.shrui (res_main_call0_v60 V0) (broadcastInDim S64x1000000 ![] bcast_S_S64x1000000 (constantI S_ 32 8#32))))) (broadcastInDim S64x1000000 ![] bcast_S_S64x1000000 (res_main_v16 V0))) (broadcastInDim S64x1000000 ![] bcast_S_S64x1000000 (constantI S_ 32 2#32))

set_option maxRecDepth 8192 in
/-- `main_call0_v74`'s composed term of the arguments (named: it is used 2 times). -/
def res_main_call0_v74 (V0 : Valuation τ sig (Elt F)) : (Proc.devRef .tc main_call0_v74 : DevRef τ sig).ty.Contents (Elt F) :=
  addi (addi (res_main_call0_v61 V0) (broadcastInDim S64x1000000 ![] bcast_S_S64x1000000 (res_main_call0_v1 V0))) (res_main_call0_v73 V0)

set_option maxRecDepth 8192 in
/-- `main_call0_v80`'s composed term of the arguments (named: it is used 3 times). -/
def res_main_call0_v80 (V0 : Valuation τ sig (Elt F)) : (Proc.devRef .tc main_call0_v80 : DevRef τ sig).ty.Contents (Elt F) :=
  xori (res_main_call0_v74 V0) (ori (Host.shli (res_main_call0_v73 V0) (broadcastInDim S64x1000000 ![] bcast_S_S64x1000000 (constantI S_ 32 13#32))) (Host.shrui (res_main_call0_v73 V0) (broadcastInDim S64x1000000 ![] bcast_S_S64x1000000 (constantI S_ 32 19#32))))

set_option maxRecDepth 8192 in
/-- `main_call0_v81`'s composed term of the arguments (named: it is used 2 times). -/
def res_main_call0_v81 (V0 : Valuation τ sig (Elt F)) : (Proc.devRef .tc main_call0_v81 : DevRef τ sig).ty.Contents (Elt F) :=
  addi (res_main_call0_v74 V0) (res_main_call0_v80 V0)

set_option maxRecDepth 8192 in
/-- `main_call0_v87`'s composed term of the arguments (named: it is used 3 times). -/
def res_main_call0_v87 (V0 : Valuation τ sig (Elt F)) : (Proc.devRef .tc main_call0_v87 : DevRef τ sig).ty.Contents (Elt F) :=
  xori (res_main_call0_v81 V0) (ori (Host.shli (res_main_call0_v80 V0) (broadcastInDim S64x1000000 ![] bcast_S_S64x1000000 (constantI S_ 32 15#32))) (Host.shrui (res_main_call0_v80 V0) (broadcastInDim S64x1000000 ![] bcast_S_S64x1000000 (constantI S_ 32 17#32))))

set_option maxRecDepth 8192 in
/-- `main_call0_v88`'s composed term of the arguments (named: it is used 2 times). -/
def res_main_call0_v88 (V0 : Valuation τ sig (Elt F)) : (Proc.devRef .tc main_call0_v88 : DevRef τ sig).ty.Contents (Elt F) :=
  addi (res_main_call0_v81 V0) (res_main_call0_v87 V0)

set_option maxRecDepth 8192 in
/-- `main_call0_v94`'s composed term of the arguments (named: it is used 3 times). -/
def res_main_call0_v94 (V0 : Valuation τ sig (Elt F)) : (Proc.devRef .tc main_call0_v94 : DevRef τ sig).ty.Contents (Elt F) :=
  xori (res_main_call0_v88 V0) (ori (Host.shli (res_main_call0_v87 V0) (broadcastInDim S64x1000000 ![] bcast_S_S64x1000000 (constantI S_ 32 26#32))) (Host.shrui (res_main_call0_v87 V0) (broadcastInDim S64x1000000 ![] bcast_S_S64x1000000 (constantI S_ 32 6#32))))

set_option maxRecDepth 8192 in
/-- `main_call0_v95`'s composed term of the arguments (named: it is used 2 times). -/
def res_main_call0_v95 (V0 : Valuation τ sig (Elt F)) : (Proc.devRef .tc main_call0_v95 : DevRef τ sig).ty.Contents (Elt F) :=
  addi (res_main_call0_v88 V0) (res_main_call0_v94 V0)

set_option maxRecDepth 8192 in
/-- `main_call0_v107`'s composed term of the arguments (named: it is used 3 times). -/
def res_main_call0_v107 (V0 : Valuation τ sig (Elt F)) : (Proc.devRef .tc main_call0_v107 : DevRef τ sig).ty.Contents (Elt F) :=
  addi (addi (xori (res_main_call0_v95 V0) (ori (Host.shli (res_main_call0_v94 V0) (broadcastInDim S64x1000000 ![] bcast_S_S64x1000000 (constantI S_ 32 6#32))) (Host.shrui (res_main_call0_v94 V0) (broadcastInDim S64x1000000 ![] bcast_S_S64x1000000 (constantI S_ 32 26#32))))) (broadcastInDim S64x1000000 ![] bcast_S_S64x1000000 (res_main_v18 V0))) (broadcastInDim S64x1000000 ![] bcast_S_S64x1000000 (constantI S_ 32 3#32))

set_option maxRecDepth 8192 in
/-- `main_call0_v108`'s composed term of the arguments (named: it is used 2 times). -/
def res_main_call0_v108 (V0 : Valuation τ sig (Elt F)) : (Proc.devRef .tc main_call0_v108 : DevRef τ sig).ty.Contents (Elt F) :=
  addi (addi (res_main_call0_v95 V0) (broadcastInDim S64x1000000 ![] bcast_S_S64x1000000 (res_main_v16 V0))) (res_main_call0_v107 V0)

set_option maxRecDepth 8192 in
/-- `main_call0_v114`'s composed term of the arguments (named: it is used 3 times). -/
def res_main_call0_v114 (V0 : Valuation τ sig (Elt F)) : (Proc.devRef .tc main_call0_v114 : DevRef τ sig).ty.Contents (Elt F) :=
  xori (res_main_call0_v108 V0) (ori (Host.shli (res_main_call0_v107 V0) (broadcastInDim S64x1000000 ![] bcast_S_S64x1000000 (constantI S_ 32 17#32))) (Host.shrui (res_main_call0_v107 V0) (broadcastInDim S64x1000000 ![] bcast_S_S64x1000000 (constantI S_ 32 15#32))))

set_option maxRecDepth 8192 in
/-- `main_call0_v115`'s composed term of the arguments (named: it is used 2 times). -/
def res_main_call0_v115 (V0 : Valuation τ sig (Elt F)) : (Proc.devRef .tc main_call0_v115 : DevRef τ sig).ty.Contents (Elt F) :=
  addi (res_main_call0_v108 V0) (res_main_call0_v114 V0)

set_option maxRecDepth 8192 in
/-- `main_call0_v121`'s composed term of the arguments (named: it is used 3 times). -/
def res_main_call0_v121 (V0 : Valuation τ sig (Elt F)) : (Proc.devRef .tc main_call0_v121 : DevRef τ sig).ty.Contents (Elt F) :=
  xori (res_main_call0_v115 V0) (ori (Host.shli (res_main_call0_v114 V0) (broadcastInDim S64x1000000 ![] bcast_S_S64x1000000 (constantI S_ 32 29#32))) (Host.shrui (res_main_call0_v114 V0) (broadcastInDim S64x1000000 ![] bcast_S_S64x1000000 (constantI S_ 32 3#32))))

set_option maxRecDepth 8192 in
/-- `main_call0_v122`'s composed term of the arguments (named: it is used 2 times). -/
def res_main_call0_v122 (V0 : Valuation τ sig (Elt F)) : (Proc.devRef .tc main_call0_v122 : DevRef τ sig).ty.Contents (Elt F) :=
  addi (res_main_call0_v115 V0) (res_main_call0_v121 V0)

set_option maxRecDepth 8192 in
/-- `main_call0_v128`'s composed term of the arguments (named: it is used 3 times). -/
def res_main_call0_v128 (V0 : Valuation τ sig (Elt F)) : (Proc.devRef .tc main_call0_v128 : DevRef τ sig).ty.Contents (Elt F) :=
  xori (res_main_call0_v122 V0) (ori (Host.shli (res_main_call0_v121 V0) (broadcastInDim S64x1000000 ![] bcast_S_S64x1000000 (constantI S_ 32 16#32))) (Host.shrui (res_main_call0_v121 V0) (broadcastInDim S64x1000000 ![] bcast_S_S64x1000000 (constantI S_ 32 16#32))))

set_option maxRecDepth 8192 in
/-- `main_call0_v129`'s composed term of the arguments (named: it is used 2 times). -/
def res_main_call0_v129 (V0 : Valuation τ sig (Elt F)) : (Proc.devRef .tc main_call0_v129 : DevRef τ sig).ty.Contents (Elt F) :=
  addi (res_main_call0_v122 V0) (res_main_call0_v128 V0)

set_option maxRecDepth 8192 in
/-- `main_call0_v141`'s composed term of the arguments (named: it is used 3 times). -/
def res_main_call0_v141 (V0 : Valuation τ sig (Elt F)) : (Proc.devRef .tc main_call0_v141 : DevRef τ sig).ty.Contents (Elt F) :=
  addi (addi (xori (res_main_call0_v129 V0) (ori (Host.shli (res_main_call0_v128 V0) (broadcastInDim S64x1000000 ![] bcast_S_S64x1000000 (constantI S_ 32 24#32))) (Host.shrui (res_main_call0_v128 V0) (broadcastInDim S64x1000000 ![] bcast_S_S64x1000000 (constantI S_ 32 8#32))))) (broadcastInDim S64x1000000 ![] bcast_S_S64x1000000 (res_main_call0_v1 V0))) (broadcastInDim S64x1000000 ![] bcast_S_S64x1000000 (constantI S_ 32 4#32))

set_option maxRecDepth 8192 in
/-- `main_call0_v142`'s composed term of the arguments (named: it is used 2 times). -/
def res_main_call0_v142 (V0 : Valuation τ sig (Elt F)) : (Proc.devRef .tc main_call0_v142 : DevRef τ sig).ty.Contents (Elt F) :=
  addi (addi (res_main_call0_v129 V0) (broadcastInDim S64x1000000 ![] bcast_S_S64x1000000 (res_main_v18 V0))) (res_main_call0_v141 V0)

set_option maxRecDepth 8192 in
/-- `main_call0_v148`'s composed term of the arguments (named: it is used 3 times). -/
def res_main_call0_v148 (V0 : Valuation τ sig (Elt F)) : (Proc.devRef .tc main_call0_v148 : DevRef τ sig).ty.Contents (Elt F) :=
  xori (res_main_call0_v142 V0) (ori (Host.shli (res_main_call0_v141 V0) (broadcastInDim S64x1000000 ![] bcast_S_S64x1000000 (constantI S_ 32 13#32))) (Host.shrui (res_main_call0_v141 V0) (broadcastInDim S64x1000000 ![] bcast_S_S64x1000000 (constantI S_ 32 19#32))))

set_option maxRecDepth 8192 in
/-- `main_call0_v149`'s composed term of the arguments (named: it is used 2 times). -/
def res_main_call0_v149 (V0 : Valuation τ sig (Elt F)) : (Proc.devRef .tc main_call0_v149 : DevRef τ sig).ty.Contents (Elt F) :=
  addi (res_main_call0_v142 V0) (res_main_call0_v148 V0)

set_option maxRecDepth 8192 in
/-- `main_call0_v155`'s composed term of the arguments (named: it is used 3 times). -/
def res_main_call0_v155 (V0 : Valuation τ sig (Elt F)) : (Proc.devRef .tc main_call0_v155 : DevRef τ sig).ty.Contents (Elt F) :=
  xori (res_main_call0_v149 V0) (ori (Host.shli (res_main_call0_v148 V0) (broadcastInDim S64x1000000 ![] bcast_S_S64x1000000 (constantI S_ 32 15#32))) (Host.shrui (res_main_call0_v148 V0) (broadcastInDim S64x1000000 ![] bcast_S_S64x1000000 (constantI S_ 32 17#32))))

set_option maxRecDepth 8192 in
/-- `main_call0_v156`'s composed term of the arguments (named: it is used 2 times). -/
def res_main_call0_v156 (V0 : Valuation τ sig (Elt F)) : (Proc.devRef .tc main_call0_v156 : DevRef τ sig).ty.Contents (Elt F) :=
  addi (res_main_call0_v149 V0) (res_main_call0_v155 V0)

set_option maxRecDepth 8192 in
/-- `main_call0_v162`'s composed term of the arguments (named: it is used 3 times). -/
def res_main_call0_v162 (V0 : Valuation τ sig (Elt F)) : (Proc.devRef .tc main_call0_v162 : DevRef τ sig).ty.Contents (Elt F) :=
  xori (res_main_call0_v156 V0) (ori (Host.shli (res_main_call0_v155 V0) (broadcastInDim S64x1000000 ![] bcast_S_S64x1000000 (constantI S_ 32 26#32))) (Host.shrui (res_main_call0_v155 V0) (broadcastInDim S64x1000000 ![] bcast_S_S64x1000000 (constantI S_ 32 6#32))))

set_option maxRecDepth 8192 in
/-- `main_call0_v163`'s composed term of the arguments (named: it is used 2 times). -/
def res_main_call0_v163 (V0 : Valuation τ sig (Elt F)) : (Proc.devRef .tc main_call0_v163 : DevRef τ sig).ty.Contents (Elt F) :=
  addi (res_main_call0_v156 V0) (res_main_call0_v162 V0)

set_option maxRecDepth 8192 in
/-- `main_v49`'s composed term of the arguments (named: it is used 2 times). -/
def res_main_v49 (V0 : Valuation τ sig (Elt F)) : (Proc.devRef .tc main_v49 : DevRef τ sig).ty.Contents (Elt F) :=
  addf (Host.negf (Host.log (Host.negf (Host.log (maximumf (broadcastInDim S64x1000000 ![] bcast_S_S64x1000000 (constant S_ .f32 0x00800000#32)) (addf (mulf (subf (bitcastToFloat (F := F) .f32 (ori (Host.shrui (xori (addi (res_main_call0_v163 V0) (broadcastInDim S64x1000000 ![] bcast_S_S64x1000000 (res_main_call0_v1 V0))) (addi (addi (xori (res_main_call0_v163 V0) (ori (Host.shli (res_main_call0_v162 V0) (broadcastInDim S64x1000000 ![] bcast_S_S64x1000000 (constantI S_ 32 6#32))) (Host.shrui (res_main_call0_v162 V0) (broadcastInDim S64x1000000 ![] bcast_S_S64x1000000 (constantI S_ 32 26#32))))) (broadcastInDim S64x1000000 ![] bcast_S_S64x1000000 (res_main_v16 V0))) (broadcastInDim S64x1000000 ![] bcast_S_S64x1000000 (constantI S_ 32 5#32)))) (broadcastInDim S64x1000000 ![] bcast_S_S64x1000000 (constantI S_ 32 9#32))) (broadcastInDim S64x1000000 ![] bcast_S_S64x1000000 (constantI S_ 32 1065353216#32)))) (broadcastInDim S64x1000000 ![] bcast_S_S64x1000000 (constant S_ .f32 0x3F800000#32))) (broadcastInDim S64x1000000 ![] bcast_S_S64x1000000 (constant S_ .f32 0x3F800000#32))) (broadcastInDim S64x1000000 ![] bcast_S_S64x1000000 (constant S_ .f32 0x00800000#32)))))))) (Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S64x1000000 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_cst_0, main_v2, main_v3, main_v4, main_v5, main_cst_1, main_v6, main_v7, main_c, main_c_2, main_v8, main_v9, main_v10, main_c_3, main_v11, main_v12, main_v13, main_v14, main_v15, main_v16, main_v17, main_v18, main_v19, main_v20, main_c_4, main_v21, main_v22]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_v7 (V0 : Valuation τ sig (Elt F)) : val0_1 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) := by
  unfold val0_1
  simp only [ops_part0_0]
  after_results_simp
  simp only [val0_main_arg0] <;> rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0]
  after_results_simp
  all_goals rfl
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0]
  after_results_simp
  all_goals rfl
set_option maxRecDepth 8192 in
set_option maxHeartbeats 2000000 in
theorem val0_1_main_v20 (V0 : Valuation τ sig (Elt F)) : val0_1 V0 (no_index (Proc.devRef .tc main_v20)) = iotaInDim S64x1000000 64 1 := by
  unfold val0_1
  simp only [ops_part0_0]
  after_results_simp
  all_goals rfl
set_option maxRecDepth 8192 in
set_option maxHeartbeats 2000000 in
theorem val0_1_main_v22 (V0 : Valuation τ sig (Elt F)) : val0_1 V0 (no_index (Proc.devRef .tc main_v22)) = muli (broadcastInDim S64x1000000 ![] bcast_S_S64x1000000 (constantI S_ 64 1000000#64)) (iotaInDim S64x1000000 64 0) := by
  unfold val0_1
  simp only [ops_part0_0]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_c_5, main_v23, main_v24, main_v25, main_c_6, main_v26, main_v27, main_v28, main_v29, main_call0_v0, main_call0_c, main_call0_v1, main_call0_v2, main_call0_v3, main_call0_v4, main_call0_v5, main_call0_v6, main_call0_c_0, main_call0_v7, main_call0_v8, main_call0_c_1, main_call0_v9, main_call0_v10, main_call0_v11, main_call0_v12, main_call0_v13, main_call0_c_2, main_call0_v14, main_call0_v15, main_call0_c_3]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_v7 (V0 : Valuation τ sig (Elt F)) : val0_2 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_2_keep V0 main_v7 (by decide)).trans (val0_1_main_v7 V0)
theorem val0_2_main_v16 (V0 : Valuation τ sig (Elt F)) : val0_2 V0 (no_index (Proc.devRef .tc main_v16)) = res_main_v16 V0 :=
  (val0_2_keep V0 main_v16 (by decide)).trans (val0_1_main_v16 V0)
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
theorem val0_2_main_call0_v1 (V0 : Valuation τ sig (Elt F)) : val0_2 V0 (no_index (Proc.devRef .tc main_call0_v1)) = res_main_call0_v1 V0 := by
  unfold val0_2
  simp only [ops_part0_1, TRef.binary, TRef.nullary, TRef.unary, TRef.toBuf, TRef.ofBuf, cast_eq]
  after_results_simp
  simp only [val0_1_main_v18, val0_1_main_v16] <;> rfl
set_option maxRecDepth 8192 in
set_option maxHeartbeats 2000000 in
theorem val0_2_main_call0_v12 (V0 : Valuation τ sig (Elt F)) : val0_2 V0 (no_index (Proc.devRef .tc main_call0_v12)) = res_main_call0_v12 V0 := by
  unfold val0_2
  simp only [ops_part0_1, TRef.binary, TRef.nullary, TRef.unary, TRef.toBuf, TRef.ofBuf, cast_eq]
  after_results_simp
  simp only [val0_1_main_v18, val0_1_main_v20, val0_1_main_v22, val0_1_main_v16] <;> rfl
set_option maxRecDepth 8192 in
set_option maxHeartbeats 2000000 in
theorem val0_2_main_call0_v13 (V0 : Valuation τ sig (Elt F)) : val0_2 V0 (no_index (Proc.devRef .tc main_call0_v13)) = res_main_call0_v13 V0 := by
  unfold val0_2
  simp only [ops_part0_1, TRef.binary, TRef.nullary, TRef.unary, TRef.toBuf, TRef.ofBuf, cast_eq]
  after_results_simp
  simp only [val0_1_main_v18, val0_1_main_v20, val0_1_main_v22, val0_1_main_v16] <;> rfl
set_option maxRecDepth 8192 in
set_option maxHeartbeats 2000000 in
theorem val0_2_main_call0_v15 (V0 : Valuation τ sig (Elt F)) : val0_2 V0 (no_index (Proc.devRef .tc main_call0_v15)) = Host.shli (res_main_call0_v12 V0) (broadcastInDim S64x1000000 ![] bcast_S_S64x1000000 (constantI S_ 32 15#32)) := by
  unfold val0_2
  simp only [ops_part0_1, TRef.binary, TRef.nullary, TRef.unary, TRef.toBuf, TRef.ofBuf, cast_eq]
  after_results_simp
  simp only [val0_1_main_v18, val0_1_main_v20, val0_1_main_v22, val0_1_main_v16] <;> rfl
set_option maxRecDepth 8192 in
set_option maxHeartbeats 2000000 in
theorem val0_2_main_call0_c_3 (V0 : Valuation τ sig (Elt F)) : val0_2 V0 (no_index (Proc.devRef .tc main_call0_c_3)) = constantI S_ 32 17#32 := by
  unfold val0_2
  simp only [ops_part0_1, TRef.binary, TRef.nullary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call0_v16, main_call0_v17, main_call0_v18, main_call0_v19, main_call0_v20, main_call0_c_4, main_call0_v21, main_call0_v22, main_call0_c_5, main_call0_v23, main_call0_v24, main_call0_v25, main_call0_v26, main_call0_v27, main_call0_c_6, main_call0_v28, main_call0_v29, main_call0_c_7, main_call0_v30, main_call0_v31, main_call0_v32, main_call0_v33, main_call0_v34, main_call0_v35, main_call0_v36, main_call0_v37, main_call0_c_8, main_call0_v38, main_call0_v39, main_call0_v40]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_v7 (V0 : Valuation τ sig (Elt F)) : val0_3 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_3_keep V0 main_v7 (by decide)).trans (val0_2_main_v7 V0)
theorem val0_3_main_v16 (V0 : Valuation τ sig (Elt F)) : val0_3 V0 (no_index (Proc.devRef .tc main_v16)) = res_main_v16 V0 :=
  (val0_3_keep V0 main_v16 (by decide)).trans (val0_2_main_v16 V0)
theorem val0_3_main_v18 (V0 : Valuation τ sig (Elt F)) : val0_3 V0 (no_index (Proc.devRef .tc main_v18)) = res_main_v18 V0 :=
  (val0_3_keep V0 main_v18 (by decide)).trans (val0_2_main_v18 V0)
theorem val0_3_main_call0_v1 (V0 : Valuation τ sig (Elt F)) : val0_3 V0 (no_index (Proc.devRef .tc main_call0_v1)) = res_main_call0_v1 V0 :=
  (val0_3_keep V0 main_call0_v1 (by decide)).trans (val0_2_main_call0_v1 V0)
set_option maxRecDepth 8192 in
set_option maxHeartbeats 2000000 in
theorem val0_3_main_call0_v39 (V0 : Valuation τ sig (Elt F)) : val0_3 V0 (no_index (Proc.devRef .tc main_call0_v39)) = res_main_call0_v39 V0 := by
  unfold val0_3
  simp only [ops_part0_2, TRef.binary, TRef.nullary, TRef.unary, TRef.toBuf, TRef.ofBuf, cast_eq]
  after_results_simp
  simp only [val0_2_main_call0_v1, val0_2_main_call0_c_3, val0_2_main_call0_v12, val0_2_main_call0_v15, val0_2_main_call0_v13] <;> rfl
set_option maxRecDepth 8192 in
set_option maxHeartbeats 2000000 in
theorem val0_3_main_call0_v40 (V0 : Valuation τ sig (Elt F)) : val0_3 V0 (no_index (Proc.devRef .tc main_call0_v40)) = res_main_call0_v40 V0 := by
  unfold val0_3
  simp only [ops_part0_2, TRef.binary, TRef.nullary, TRef.unary, TRef.toBuf, TRef.ofBuf, cast_eq]
  after_results_simp
  simp only [val0_2_main_call0_v1, val0_2_main_call0_c_3, val0_2_main_call0_v12, val0_2_main_call0_v15, val0_2_main_call0_v13, val0_2_main_v18] <;> rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call0_c_9, main_call0_v41, main_call0_v42, main_call0_c_10, main_call0_v43, main_call0_v44, main_call0_v45, main_call0_v46, main_call0_v47, main_call0_c_11, main_call0_v48, main_call0_v49, main_call0_c_12, main_call0_v50, main_call0_v51, main_call0_v52, main_call0_v53, main_call0_v54, main_call0_c_13, main_call0_v55, main_call0_v56, main_call0_c_14, main_call0_v57, main_call0_v58, main_call0_v59, main_call0_v60, main_call0_v61, main_call0_c_15, main_call0_v62, main_call0_v63]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_v7 (V0 : Valuation τ sig (Elt F)) : val0_4 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_4_keep V0 main_v7 (by decide)).trans (val0_3_main_v7 V0)
theorem val0_4_main_v16 (V0 : Valuation τ sig (Elt F)) : val0_4 V0 (no_index (Proc.devRef .tc main_v16)) = res_main_v16 V0 :=
  (val0_4_keep V0 main_v16 (by decide)).trans (val0_3_main_v16 V0)
theorem val0_4_main_v18 (V0 : Valuation τ sig (Elt F)) : val0_4 V0 (no_index (Proc.devRef .tc main_v18)) = res_main_v18 V0 :=
  (val0_4_keep V0 main_v18 (by decide)).trans (val0_3_main_v18 V0)
theorem val0_4_main_call0_v1 (V0 : Valuation τ sig (Elt F)) : val0_4 V0 (no_index (Proc.devRef .tc main_call0_v1)) = res_main_call0_v1 V0 :=
  (val0_4_keep V0 main_call0_v1 (by decide)).trans (val0_3_main_call0_v1 V0)
set_option maxRecDepth 8192 in
set_option maxHeartbeats 2000000 in
theorem val0_4_main_call0_v60 (V0 : Valuation τ sig (Elt F)) : val0_4 V0 (no_index (Proc.devRef .tc main_call0_v60)) = res_main_call0_v60 V0 := by
  unfold val0_4
  simp only [ops_part0_3, TRef.binary, TRef.nullary, TRef.unary, TRef.toBuf, TRef.ofBuf, cast_eq]
  after_results_simp
  simp only [val0_3_main_call0_v39, val0_3_main_call0_v40] <;> rfl
set_option maxRecDepth 8192 in
set_option maxHeartbeats 2000000 in
theorem val0_4_main_call0_v61 (V0 : Valuation τ sig (Elt F)) : val0_4 V0 (no_index (Proc.devRef .tc main_call0_v61)) = res_main_call0_v61 V0 := by
  unfold val0_4
  simp only [ops_part0_3, TRef.binary, TRef.nullary, TRef.unary, TRef.toBuf, TRef.ofBuf, cast_eq]
  after_results_simp
  simp only [val0_3_main_call0_v39, val0_3_main_call0_v40] <;> rfl
set_option maxRecDepth 8192 in
set_option maxHeartbeats 2000000 in
theorem val0_4_main_call0_v63 (V0 : Valuation τ sig (Elt F)) : val0_4 V0 (no_index (Proc.devRef .tc main_call0_v63)) = Host.shli (res_main_call0_v60 V0) (broadcastInDim S64x1000000 ![] bcast_S_S64x1000000 (constantI S_ 32 24#32)) := by
  unfold val0_4
  simp only [ops_part0_3, TRef.binary, TRef.nullary, TRef.unary, TRef.toBuf, TRef.ofBuf, cast_eq]
  after_results_simp
  simp only [val0_3_main_call0_v39, val0_3_main_call0_v40] <;> rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call0_c_16, main_call0_v64, main_call0_v65, main_call0_v66, main_call0_v67, main_call0_v68, main_call0_v69, main_call0_v70, main_call0_v71, main_call0_c_17, main_call0_v72, main_call0_v73, main_call0_v74, main_call0_c_18, main_call0_v75, main_call0_v76, main_call0_c_19, main_call0_v77, main_call0_v78, main_call0_v79, main_call0_v80, main_call0_v81, main_call0_c_20, main_call0_v82, main_call0_v83, main_call0_c_21, main_call0_v84, main_call0_v85, main_call0_v86, main_call0_v87]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_v7 (V0 : Valuation τ sig (Elt F)) : val0_5 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_5_keep V0 main_v7 (by decide)).trans (val0_4_main_v7 V0)
theorem val0_5_main_v16 (V0 : Valuation τ sig (Elt F)) : val0_5 V0 (no_index (Proc.devRef .tc main_v16)) = res_main_v16 V0 :=
  (val0_5_keep V0 main_v16 (by decide)).trans (val0_4_main_v16 V0)
theorem val0_5_main_v18 (V0 : Valuation τ sig (Elt F)) : val0_5 V0 (no_index (Proc.devRef .tc main_v18)) = res_main_v18 V0 :=
  (val0_5_keep V0 main_v18 (by decide)).trans (val0_4_main_v18 V0)
theorem val0_5_main_call0_v1 (V0 : Valuation τ sig (Elt F)) : val0_5 V0 (no_index (Proc.devRef .tc main_call0_v1)) = res_main_call0_v1 V0 :=
  (val0_5_keep V0 main_call0_v1 (by decide)).trans (val0_4_main_call0_v1 V0)
set_option maxRecDepth 8192 in
set_option maxHeartbeats 2000000 in
theorem val0_5_main_call0_v81 (V0 : Valuation τ sig (Elt F)) : val0_5 V0 (no_index (Proc.devRef .tc main_call0_v81)) = res_main_call0_v81 V0 := by
  unfold val0_5
  simp only [ops_part0_4, TRef.binary, TRef.nullary, TRef.unary, TRef.toBuf, TRef.ofBuf, cast_eq]
  after_results_simp
  simp only [val0_4_main_v16, val0_4_main_call0_v60, val0_4_main_call0_v63, val0_4_main_call0_v61, val0_4_main_call0_v1] <;> rfl
set_option maxRecDepth 8192 in
set_option maxHeartbeats 2000000 in
theorem val0_5_main_call0_v87 (V0 : Valuation τ sig (Elt F)) : val0_5 V0 (no_index (Proc.devRef .tc main_call0_v87)) = res_main_call0_v87 V0 := by
  unfold val0_5
  simp only [ops_part0_4, TRef.binary, TRef.nullary, TRef.unary, TRef.toBuf, TRef.ofBuf, cast_eq]
  after_results_simp
  simp only [val0_4_main_v16, val0_4_main_call0_v60, val0_4_main_call0_v63, val0_4_main_call0_v61, val0_4_main_call0_v1] <;> rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call0_v88, main_call0_c_22, main_call0_v89, main_call0_v90, main_call0_c_23, main_call0_v91, main_call0_v92, main_call0_v93, main_call0_v94, main_call0_v95, main_call0_c_24, main_call0_v96, main_call0_v97, main_call0_c_25, main_call0_v98, main_call0_v99, main_call0_v100, main_call0_v101, main_call0_v102, main_call0_v103, main_call0_v104, main_call0_v105, main_call0_c_26, main_call0_v106, main_call0_v107, main_call0_v108, main_call0_c_27, main_call0_v109, main_call0_v110, main_call0_c_28]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_v7 (V0 : Valuation τ sig (Elt F)) : val0_6 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_6_keep V0 main_v7 (by decide)).trans (val0_5_main_v7 V0)
theorem val0_6_main_v16 (V0 : Valuation τ sig (Elt F)) : val0_6 V0 (no_index (Proc.devRef .tc main_v16)) = res_main_v16 V0 :=
  (val0_6_keep V0 main_v16 (by decide)).trans (val0_5_main_v16 V0)
theorem val0_6_main_v18 (V0 : Valuation τ sig (Elt F)) : val0_6 V0 (no_index (Proc.devRef .tc main_v18)) = res_main_v18 V0 :=
  (val0_6_keep V0 main_v18 (by decide)).trans (val0_5_main_v18 V0)
theorem val0_6_main_call0_v1 (V0 : Valuation τ sig (Elt F)) : val0_6 V0 (no_index (Proc.devRef .tc main_call0_v1)) = res_main_call0_v1 V0 :=
  (val0_6_keep V0 main_call0_v1 (by decide)).trans (val0_5_main_call0_v1 V0)
set_option maxRecDepth 8192 in
set_option maxHeartbeats 2000000 in
theorem val0_6_main_call0_v107 (V0 : Valuation τ sig (Elt F)) : val0_6 V0 (no_index (Proc.devRef .tc main_call0_v107)) = res_main_call0_v107 V0 := by
  unfold val0_6
  simp only [ops_part0_5, TRef.binary, TRef.nullary, TRef.unary, TRef.toBuf, TRef.ofBuf, cast_eq]
  after_results_simp
  simp only [val0_5_main_v18, val0_5_main_call0_v87, val0_5_main_call0_v81] <;> rfl
set_option maxRecDepth 8192 in
set_option maxHeartbeats 2000000 in
theorem val0_6_main_call0_v108 (V0 : Valuation τ sig (Elt F)) : val0_6 V0 (no_index (Proc.devRef .tc main_call0_v108)) = res_main_call0_v108 V0 := by
  unfold val0_6
  simp only [ops_part0_5, TRef.binary, TRef.nullary, TRef.unary, TRef.toBuf, TRef.ofBuf, cast_eq]
  after_results_simp
  simp only [val0_5_main_v18, val0_5_main_call0_v87, val0_5_main_call0_v81, val0_5_main_v16] <;> rfl
set_option maxRecDepth 8192 in
set_option maxHeartbeats 2000000 in
theorem val0_6_main_call0_v110 (V0 : Valuation τ sig (Elt F)) : val0_6 V0 (no_index (Proc.devRef .tc main_call0_v110)) = Host.shli (res_main_call0_v107 V0) (broadcastInDim S64x1000000 ![] bcast_S_S64x1000000 (constantI S_ 32 17#32)) := by
  unfold val0_6
  simp only [ops_part0_5, TRef.binary, TRef.nullary, TRef.unary, TRef.toBuf, TRef.ofBuf, cast_eq]
  after_results_simp
  simp only [val0_5_main_v18, val0_5_main_call0_v87, val0_5_main_call0_v81] <;> rfl
set_option maxRecDepth 8192 in
set_option maxHeartbeats 2000000 in
theorem val0_6_main_call0_c_28 (V0 : Valuation τ sig (Elt F)) : val0_6 V0 (no_index (Proc.devRef .tc main_call0_c_28)) = constantI S_ 32 15#32 := by
  unfold val0_6
  simp only [ops_part0_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call0_v111, main_call0_v112, main_call0_v113, main_call0_v114, main_call0_v115, main_call0_c_29, main_call0_v116, main_call0_v117, main_call0_c_30, main_call0_v118, main_call0_v119, main_call0_v120, main_call0_v121, main_call0_v122, main_call0_c_31, main_call0_v123, main_call0_v124, main_call0_c_32, main_call0_v125, main_call0_v126, main_call0_v127, main_call0_v128, main_call0_v129, main_call0_c_33, main_call0_v130, main_call0_v131, main_call0_c_34, main_call0_v132, main_call0_v133, main_call0_v134]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_v7 (V0 : Valuation τ sig (Elt F)) : val0_7 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_7_keep V0 main_v7 (by decide)).trans (val0_6_main_v7 V0)
theorem val0_7_main_v16 (V0 : Valuation τ sig (Elt F)) : val0_7 V0 (no_index (Proc.devRef .tc main_v16)) = res_main_v16 V0 :=
  (val0_7_keep V0 main_v16 (by decide)).trans (val0_6_main_v16 V0)
theorem val0_7_main_v18 (V0 : Valuation τ sig (Elt F)) : val0_7 V0 (no_index (Proc.devRef .tc main_v18)) = res_main_v18 V0 :=
  (val0_7_keep V0 main_v18 (by decide)).trans (val0_6_main_v18 V0)
theorem val0_7_main_call0_v1 (V0 : Valuation τ sig (Elt F)) : val0_7 V0 (no_index (Proc.devRef .tc main_call0_v1)) = res_main_call0_v1 V0 :=
  (val0_7_keep V0 main_call0_v1 (by decide)).trans (val0_6_main_call0_v1 V0)
set_option maxRecDepth 8192 in
set_option maxHeartbeats 2000000 in
theorem val0_7_main_call0_v129 (V0 : Valuation τ sig (Elt F)) : val0_7 V0 (no_index (Proc.devRef .tc main_call0_v129)) = res_main_call0_v129 V0 := by
  unfold val0_7
  simp only [ops_part0_6, TRef.binary, TRef.nullary, TRef.unary, TRef.toBuf, TRef.ofBuf, cast_eq]
  after_results_simp
  simp only [val0_6_main_call0_c_28, val0_6_main_call0_v107, val0_6_main_call0_v110, val0_6_main_call0_v108] <;> rfl
set_option maxRecDepth 8192 in
set_option maxHeartbeats 2000000 in
theorem val0_7_main_call0_v134 (V0 : Valuation τ sig (Elt F)) : val0_7 V0 (no_index (Proc.devRef .tc main_call0_v134)) = ori (Host.shli (res_main_call0_v128 V0) (broadcastInDim S64x1000000 ![] bcast_S_S64x1000000 (constantI S_ 32 24#32))) (Host.shrui (res_main_call0_v128 V0) (broadcastInDim S64x1000000 ![] bcast_S_S64x1000000 (constantI S_ 32 8#32))) := by
  unfold val0_7
  simp only [ops_part0_6, TRef.binary, TRef.nullary, TRef.unary, TRef.toBuf, TRef.ofBuf, cast_eq]
  after_results_simp
  simp only [val0_6_main_call0_c_28, val0_6_main_call0_v107, val0_6_main_call0_v110, val0_6_main_call0_v108] <;> rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call0_v135, main_call0_v136, main_call0_v137, main_call0_v138, main_call0_v139, main_call0_c_35, main_call0_v140, main_call0_v141, main_call0_v142, main_call0_c_36, main_call0_v143, main_call0_v144, main_call0_c_37, main_call0_v145, main_call0_v146, main_call0_v147, main_call0_v148, main_call0_v149, main_call0_c_38, main_call0_v150, main_call0_v151, main_call0_c_39, main_call0_v152, main_call0_v153, main_call0_v154, main_call0_v155, main_call0_v156, main_call0_c_40, main_call0_v157, main_call0_v158]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_v7 (V0 : Valuation τ sig (Elt F)) : val0_8 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_8_keep V0 main_v7 (by decide)).trans (val0_7_main_v7 V0)
theorem val0_8_main_v16 (V0 : Valuation τ sig (Elt F)) : val0_8 V0 (no_index (Proc.devRef .tc main_v16)) = res_main_v16 V0 :=
  (val0_8_keep V0 main_v16 (by decide)).trans (val0_7_main_v16 V0)
theorem val0_8_main_call0_v1 (V0 : Valuation τ sig (Elt F)) : val0_8 V0 (no_index (Proc.devRef .tc main_call0_v1)) = res_main_call0_v1 V0 :=
  (val0_8_keep V0 main_call0_v1 (by decide)).trans (val0_7_main_call0_v1 V0)
set_option maxRecDepth 8192 in
set_option maxHeartbeats 2000000 in
theorem val0_8_main_call0_v155 (V0 : Valuation τ sig (Elt F)) : val0_8 V0 (no_index (Proc.devRef .tc main_call0_v155)) = res_main_call0_v155 V0 := by
  unfold val0_8
  simp only [ops_part0_7, TRef.binary, TRef.nullary, TRef.unary, TRef.toBuf, TRef.ofBuf, cast_eq]
  after_results_simp
  simp only [val0_7_main_call0_v1, val0_7_main_call0_v134, val0_7_main_call0_v129, val0_7_main_v18] <;> rfl
set_option maxRecDepth 8192 in
set_option maxHeartbeats 2000000 in
theorem val0_8_main_call0_v156 (V0 : Valuation τ sig (Elt F)) : val0_8 V0 (no_index (Proc.devRef .tc main_call0_v156)) = res_main_call0_v156 V0 := by
  unfold val0_8
  simp only [ops_part0_7, TRef.binary, TRef.nullary, TRef.unary, TRef.toBuf, TRef.ofBuf, cast_eq]
  after_results_simp
  simp only [val0_7_main_call0_v1, val0_7_main_call0_v134, val0_7_main_call0_v129, val0_7_main_v18] <;> rfl
set_option maxRecDepth 8192 in
set_option maxHeartbeats 2000000 in
theorem val0_8_main_call0_v158 (V0 : Valuation τ sig (Elt F)) : val0_8 V0 (no_index (Proc.devRef .tc main_call0_v158)) = Host.shli (res_main_call0_v155 V0) (broadcastInDim S64x1000000 ![] bcast_S_S64x1000000 (constantI S_ 32 26#32)) := by
  unfold val0_8
  simp only [ops_part0_7, TRef.binary, TRef.nullary, TRef.unary, TRef.toBuf, TRef.ofBuf, cast_eq]
  after_results_simp
  simp only [val0_7_main_call0_v1, val0_7_main_call0_v134, val0_7_main_call0_v129, val0_7_main_v18] <;> rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call0_c_41, main_call0_v159, main_call0_v160, main_call0_v161, main_call0_v162, main_call0_v163, main_call0_c_42, main_call0_v164, main_call0_v165, main_call0_c_43, main_call0_v166, main_call0_v167, main_call0_v168, main_call0_v169, main_call0_v170, main_v30_0, main_call0_v172, main_call0_v173, main_call0_c_44, main_call0_v174, main_v30_1, main_v31, main_c_7, main_v32, main_v33, main_c_8, main_v34, main_v35, main_v36, main_cst_9]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_v7 (V0 : Valuation τ sig (Elt F)) : val0_9 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val0_9_keep V0 main_v7 (by decide)).trans (val0_8_main_v7 V0)
set_option maxRecDepth 8192 in
set_option maxHeartbeats 2000000 in
theorem val0_9_main_v36 (V0 : Valuation τ sig (Elt F)) : val0_9 V0 (no_index (Proc.devRef .tc main_v36)) = bitcastToFloat (F := F) .f32 (ori (Host.shrui (xori (addi (res_main_call0_v163 V0) (broadcastInDim S64x1000000 ![] bcast_S_S64x1000000 (res_main_call0_v1 V0))) (addi (addi (xori (res_main_call0_v163 V0) (ori (Host.shli (res_main_call0_v162 V0) (broadcastInDim S64x1000000 ![] bcast_S_S64x1000000 (constantI S_ 32 6#32))) (Host.shrui (res_main_call0_v162 V0) (broadcastInDim S64x1000000 ![] bcast_S_S64x1000000 (constantI S_ 32 26#32))))) (broadcastInDim S64x1000000 ![] bcast_S_S64x1000000 (res_main_v16 V0))) (broadcastInDim S64x1000000 ![] bcast_S_S64x1000000 (constantI S_ 32 5#32)))) (broadcastInDim S64x1000000 ![] bcast_S_S64x1000000 (constantI S_ 32 9#32))) (broadcastInDim S64x1000000 ![] bcast_S_S64x1000000 (constantI S_ 32 1065353216#32))) := by
  unfold val0_9
  simp only [ops_part0_8, TRef.binary, TRef.nullary, TRef.unary, TRef.toBuf, TRef.ofBuf, cast_eq]
  after_results_simp
  simp only [val0_8_main_v16, val0_8_main_call0_v155, val0_8_main_call0_v158, val0_8_main_call0_v156, val0_8_main_call0_v1] <;> rfl
set_option maxRecDepth 8192 in
set_option maxHeartbeats 2000000 in
theorem val0_9_main_cst_9 (V0 : Valuation τ sig (Elt F)) : val0_9 V0 (no_index (Proc.devRef .tc main_cst_9)) = constant S_ .f32 0x3F800000#32 := by
  unfold val0_9
  simp only [ops_part0_8, TRef.binary, TRef.nullary, TRef.unary, TRef.toBuf, TRef.ofBuf, cast_eq]
  after_results_simp
  all_goals rfl

/-- The device's buffer contents after @main's first 1 window. -/
def val1 (V0 : Valuation τ sig (Elt F)) : Valuation τ sig (Elt F) := after ops_part0_9 (val0_9 V0)
/-- The buffers that window `ops_part0_9`'s operations write. -/
abbrev ops_part0_9_W : List (Ref sig .tc) := [main_v37, main_v38, main_cst_10, main_v39, main_v40, main_cst_11, main_v41, main_v42, main_cst_12, main_v43, main_v44]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_9` does not write keeps its contents through it. -/
theorem val1_keep (V0 : Valuation τ sig (Elt F)) (r : Ref sig .tc) (h : r ∉ ops_part0_9_W) :
    val1 V0 (Proc.devRef .tc r) = val0_9 V0 (Proc.devRef .tc r) :=
  after_of_writes_sub ops_part0_9 _ ops_part0_9_writes h
theorem val1_main_arg0 (V0 : Valuation τ sig (Elt F)) : val1 V0 (no_index (Proc.devRef .tc main_arg0)) = V0 (Proc.devRef .tc main_arg0) :=
  (val1_keep V0 main_arg0 (by decide)).trans (val0_9_main_arg0 V0)
theorem val1_main_v7 (V0 : Valuation τ sig (Elt F)) : val1 V0 (no_index (Proc.devRef .tc main_v7)) = Host.divf (subf (res_main_v1 V0) (broadcastInDim S64x1000000 ![0, 1] bcast_S64x1_S64x1000000_0_1 (broadcastInDim S64x1 ![0] bcast_S64_S64x1_0 (Host.reduce FloatOps.maximumf (res_main_v1 V0) (constant S_ .f32 0xFF800000#32) reducesTo_S64x1000000_S64_d1 h_S_)))) (broadcastInDim S64x1000000 ![] bcast_S_S64x1000000 (constant S_ .f32 0x3F800000#32)) :=
  (val1_keep V0 main_v7 (by decide)).trans (val0_9_main_v7 V0)
set_option maxRecDepth 8192 in
set_option maxHeartbeats 1100000 in
theorem val1_main_v44 (V0 : Valuation τ sig (Elt F)) : val1 V0 (no_index (Proc.devRef .tc main_v44)) = maximumf (broadcastInDim S64x1000000 ![] bcast_S_S64x1000000 (constant S_ .f32 0x00800000#32)) (addf (mulf (subf (bitcastToFloat (F := F) .f32 (ori (Host.shrui (xori (addi (res_main_call0_v163 V0) (broadcastInDim S64x1000000 ![] bcast_S_S64x1000000 (res_main_call0_v1 V0))) (addi (addi (xori (res_main_call0_v163 V0) (ori (Host.shli (res_main_call0_v162 V0) (broadcastInDim S64x1000000 ![] bcast_S_S64x1000000 (constantI S_ 32 6#32))) (Host.shrui (res_main_call0_v162 V0) (broadcastInDim S64x1000000 ![] bcast_S_S64x1000000 (constantI S_ 32 26#32))))) (broadcastInDim S64x1000000 ![] bcast_S_S64x1000000 (res_main_v16 V0))) (broadcastInDim S64x1000000 ![] bcast_S_S64x1000000 (constantI S_ 32 5#32)))) (broadcastInDim S64x1000000 ![] bcast_S_S64x1000000 (constantI S_ 32 9#32))) (broadcastInDim S64x1000000 ![] bcast_S_S64x1000000 (constantI S_ 32 1065353216#32)))) (broadcastInDim S64x1000000 ![] bcast_S_S64x1000000 (constant S_ .f32 0x3F800000#32))) (broadcastInDim S64x1000000 ![] bcast_S_S64x1000000 (constant S_ .f32 0x3F800000#32))) (broadcastInDim S64x1000000 ![] bcast_S_S64x1000000 (constant S_ .f32 0x00800000#32))) := by
  unfold val1
  simp only [ops_part0_9]
  after_results_simp
  simp only [val0_9_main_cst_9, val0_9_main_v36] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v45, main_v46, main_v47, main_v48, main_v49, main_call1_v0, main_call1_cst, main_call1_c, main_call1_v1_0, main_v50, main_v51]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
set_option maxRecDepth 8192 in
set_option maxHeartbeats 1100000 in
theorem val2_main_v51 (V0 : Valuation τ sig (Elt F)) : val2 V0 (no_index (Proc.devRef .tc main_v51)) = broadcastInDim S64x1 ![0] bcast_S64_S64x1_0 ((fun j => (Host.argReduce reducer_argmax_f32_i32 (res_main_v49 V0) (res_main_call1_v0 V0) (res_main_call1_cst V0) (res_main_call1_c V0) reducesTo_S64x1000000_S64_d1 h_S_ j).2)) := by
  unfold val2
  simp only [ops_part1, TRef.nullary, TRef.quaternary, TRef.toBuf, TRef.ofBuf, cast_eq]
  after_results_simp
  simp only [val1_main_v7, val1_main_v44] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = broadcastInDim S64x1 ![0] bcast_S64_S64x1_0 ((fun j => (Host.argReduce reducer_argmax_f32_i32 (res_main_v49 (launchContents m c)) (res_main_call1_v0 (launchContents m c)) (res_main_call1_cst (launchContents m c)) (res_main_call1_c (launchContents m c)) reducesTo_S64x1000000_S64_d1 h_S_ j).2))
      ∧ r.2.mem ((c.tc : Thread nD τ).loc main_arg0) = m ((c.tc : Thread nD τ).loc main_arg0) :=
  (θ_run defs _ _).mono (fun _ h c => ⟨(h c main_v51).trans ((congrFun (after_ops (launchContents m c)) (Proc.devRef .tc main_v51)).trans (val2_main_v51 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.ReferenceIdeal.Value

end
-- ==== Proof.SameText.lean ====
/- The optimised program and its idealisation are the same text, so the frame proved of the second at any float
   interpretation is the first's. -/
module

public import proofs.«01_k».proof.Defs
public import proofs.«01_k».proof.Proof.Gen.Kernel
public import proofs.«01_k».proof.Proof.Gen.KernelIdeal
public import proofs.«01_k».proof.Proof.Launch

@[expose] public section

noncomputable section

namespace Cert.Proof

open Idealize.ShloMosaic Idealize.ShloMosaic.TcCoe Idealize.SL.Sem Idealize.ShloMosaic.Tactic

/-- The frame of the idealised program, read at the machine's own floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

theorem same_frame : Cert.quiescent_Kernel (hKernel := Cert.Kernel.Gen.facts) = FrameAtBits := by
  sl_kernel_rfl

/-- The optimised program at the machine's own floats: it runs, its argument ends unchanged, every counter ends at zero. -/
theorem frame_kernel : Cert.quiescent_Kernel (hKernel := Cert.Kernel.Gen.facts) :=
  same_frame.mpr fun m ρ _ => Cert.KernelIdeal.Run.frame (F := Bits) m ρ

end Cert.Proof

end
-- ==== Proof.Threefry.lean ====
/- The random bits, as a function of one 32-bit counter: threefry-2x32 with 20 rounds under the key (0, 42), applied to
   the 64-bit counter whose high word is 0, its two output words combined by exclusive or. Plain words of 32 bits, no
   program: both programs' texts are compared with this one. -/
module

public import Idealize.ShloMosaic.PureOps.Vector

@[expose] public section

namespace Cert.Threefry

/-- Rotation of a word to the left by `r`, where `s` is `32 - r`. -/
def spin (r s b : BitVec 32) : BitVec 32 := (b <<< r) ||| (b >>> s)
/-- One round: add the second word to the first, rotate the second and xor the first into it. -/
def mix (r s : BitVec 32) (p : BitVec 32 × BitVec 32) : BitVec 32 × BitVec 32 := (p.1 + p.2, (p.1 + p.2) ^^^ spin r s p.2)
/-- A key injection: one word added to each half. -/
def inject (j k : BitVec 32) (p : BitVec 32 × BitVec 32) : BitVec 32 × BitVec 32 := (p.1 + j, p.2 + k)
/-- Four rounds with the rotations 13, 15, 26, 6. -/
def fourA (p : BitVec 32 × BitVec 32) : BitVec 32 × BitVec 32 := mix 6#32 26#32 (mix 26#32 6#32 (mix 15#32 17#32 (mix 13#32 19#32 p)))
/-- Four rounds with the rotations 17, 29, 16, 24. -/
def fourB (p : BitVec 32 × BitVec 32) : BitVec 32 × BitVec 32 := mix 24#32 8#32 (mix 16#32 16#32 (mix 29#32 3#32 (mix 17#32 15#32 p)))

/-- The key's third word, from the first two: 0, 42 and the cipher's constant. -/
def third : BitVec 32 := (0#32 ^^^ 42#32) ^^^ 466688986#32

/-- The state before the last four rounds, from the counter's low word. -/
def state (w : BitVec 32) : BitVec 32 × BitVec 32 :=
  inject 42#32 (third + 4#32) (fourB (inject 0#32 (42#32 + 3#32) (fourA (inject third (0#32 + 2#32) (fourB
    (inject 42#32 (third + 1#32) (fourA (inject 0#32 42#32 (0#32, w)))))))))
/-- The 64 output bits of the counter `(0, w)`, as two words. -/
def words (w : BitVec 32) : BitVec 32 × BitVec 32 := inject third (0#32 + 5#32) (fourA (state w))
/-- The 32 random bits of the counter `(0, w)`. -/
def bits (w : BitVec 32) : BitVec 32 := (words w).1 ^^^ (words w).2

/-- Four rounds and a key injection, word by word: if the eight words `x1, y1, …, x4, y4` are computed one from another
    as the rounds compute them and `z` is the last one with `k` added, then the state is `(x4 + j, z)`. -/
theorem advance {p : BitVec 32 × BitVec 32} {a b x1 y1 x2 y2 x3 y3 x4 z j k r1 s1 r2 s2 r3 s3 r4 s4 : BitVec 32} (hp : p = (a, b))
    (h1 : x1 = a + b) (g1 : y1 = x1 ^^^ spin r1 s1 b) (h2 : x2 = x1 + y1) (g2 : y2 = x2 ^^^ spin r2 s2 y1)
    (h3 : x3 = x2 + y2) (g3 : y3 = x3 ^^^ spin r3 s3 y2) (h4 : x4 = x3 + y3) (hz : z = (x4 ^^^ spin r4 s4 y3) + k) :
    inject j k (mix r4 s4 (mix r3 s3 (mix r2 s2 (mix r1 s1 p)))) = (x4 + j, z) := by
  subst hp h1 g1 h2 g2 h3 g3 h4 hz; rfl

end Cert.Threefry
-- ==== Proof.Gumbel.lean ====
/- The noise of one word of random bits, as a real number: the top 23 bits are the fraction `f` of a float in [1, 2), the
   uniform variate is `f + 2^-126`, and the noise is `-log (-log u)`. The variate lies strictly between 0 and 1, so the
   noise is a real number; the two programs' float expressions are both equal to it over the extended reals. -/
module

public import Idealize.ShloMosaic.PureOps.Ideal.Laws

@[expose] public section

noncomputable section

namespace Cert.Gumbel

open Idealize.ShloMosaic

/-- The fraction of the float built from the word: its top 23 bits over `2^23`. -/
def frac (w : BitVec 32) : ℝ := ((w >>> 9#32).toNat : ℝ) / 2 ^ 23
/-- The uniform variate: the fraction, moved up by the smallest normal float. -/
def variate (w : BitVec 32) : ℝ := frac w + 2 ^ (-126 : ℤ)
/-- The noise: the Gumbel quantile of the variate. -/
def noise (w : BitVec 32) : ℝ := -Real.log (-Real.log (variate w))

theorem frac_nonneg (w : BitVec 32) : 0 ≤ frac w := by unfold frac; positivity

theorem shift_lt (w : BitVec 32) : (w >>> 9#32).toNat < 2 ^ 23 := by
  have h := w.isLt
  rw [BitVec.ushiftRight_eq', BitVec.toNat_ushiftRight, Nat.shiftRight_eq_div_pow]
  show w.toNat / 2 ^ 9 < 2 ^ 23
  omega

theorem variate_pos (w : BitVec 32) : 0 < variate w := by
  have := frac_nonneg w; unfold variate; positivity

theorem variate_lt_one (w : BitVec 32) : variate w < 1 := by
  have h : ((w >>> 9#32).toNat : ℝ) ≤ 2 ^ 23 - 1 := by
    have := shift_lt w
    have h' : (w >>> 9#32).toNat + 1 ≤ 2 ^ 23 := this
    have : ((w >>> 9#32).toNat : ℝ) + 1 ≤ 2 ^ 23 := by exact_mod_cast h'
    linarith
  have hf : frac w ≤ 1 - 1 / 2 ^ 23 := by
    unfold frac; rw [div_le_iff₀ (by positivity)]; norm_num at h ⊢; linarith
  have ht : (2 : ℝ) ^ (-126 : ℤ) < 1 / 2 ^ 23 := by norm_num
  unfold variate
  generalize (2 : ℝ) ^ (-126 : ℤ) = t at ht ⊢
  generalize frac w = f at hf ⊢
  norm_num at ht hf
  linarith

/-- The float whose bits are the word's top 23 under the exponent of one is one plus the fraction. -/
theorem ofBits_mantissa (w : BitVec 32) : Ideal.ofBits .f32 ((w >>> 9#32) ||| 1065353216#32) = ((1 + frac w : ℝ) : EReal) := by
  have hs := shift_lt w
  have hor : ((w >>> 9#32) ||| 1065353216#32).toNat = 127 * 2 ^ 23 + (w >>> 9#32).toNat := by
    rw [BitVec.toNat_or, Nat.or_comm]
    exact (Nat.two_pow_add_eq_or_of_lt (i := 23) hs 127).symm
  have hfr : (((w >>> 9#32) ||| 1065353216#32).extractLsb' 0 23).toNat = (w >>> 9#32).toNat := by
    rw [BitVec.extractLsb'_toNat, hor, Nat.shiftRight_zero]; omega
  have hex : (((w >>> 9#32) ||| 1065353216#32).extractLsb' 23 8).toNat = 127 := by
    rw [BitVec.extractLsb'_toNat, hor, Nat.shiftRight_eq_div_pow]; omega
  have hsg : (((w >>> 9#32) ||| 1065353216#32).extractLsb' (8 + 23) 1) = 0#1 := by
    apply BitVec.eq_of_toNat_eq
    rw [BitVec.extractLsb'_toNat, hor, Nat.shiftRight_eq_div_pow]
    show _ = 0
    omega
  show Ideal.ieee 8 23 ((w >>> 9#32) ||| 1065353216#32) = _
  unfold Ideal.ieee
  rw [hfr, hex, hsg]
  unfold frac
  generalize (w >>> 9#32).toNat = n
  norm_num
  norm_cast
  push_cast
  ring

/-- The exact semantics' logarithm of the coercion of a positive real. -/
theorem log_coe {x : ℝ} (hx : 0 < x) : Ideal.log (x : EReal) = ((Real.log x : ℝ) : EReal) := if_neg (not_le.mpr hx)

/-- The smallest normal float. -/
theorem ofBits_tiny : Ideal.ofBits .f32 8388608#32 = (((2 : ℝ) ^ (-126 : ℤ) : ℝ) : EReal) := by
  simp [Ideal.ofBits, Ideal.ieee, -EReal.coe_mul]; norm_num
/-- One. -/
theorem ofBits_one : Ideal.ofBits .f32 1065353216#32 = ((1 : ℝ) : EReal) := by
  simp [Ideal.ofBits, Ideal.ieee, -EReal.coe_mul]; norm_num

/-- The kernel's expression of the noise. -/
theorem kernel_noise (w : BitVec 32) :
    (0 : EReal) - Ideal.log (0 - Ideal.log (Ideal.ofBits .f32 ((w >>> 9#32) ||| 1065353216#32) - Ideal.ofBits .f32 1065353216#32 + Ideal.ofBits .f32 8388608#32))
      = ((noise w : ℝ) : EReal) := by
  rw [zero_sub, zero_sub, ofBits_mantissa, ofBits_tiny, ofBits_one, ← EReal.coe_sub, ← EReal.coe_add,
    show (1 + frac w - 1 + (2 : ℝ) ^ (-126 : ℤ)) = variate w by unfold variate; ring, log_coe (variate_pos w), ← EReal.coe_neg,
    log_coe (neg_pos.mpr (Real.log_neg (variate_pos w) (variate_lt_one w))), ← EReal.coe_neg]
  rfl

/-- The reference's expression of the noise: the product by one and the maximum with the smallest variate change nothing. -/
theorem reference_noise (w : BitVec 32) :
    -Ideal.log (-Ideal.log (max (Ideal.ofBits .f32 8388608#32)
        ((Ideal.ofBits .f32 ((w >>> 9#32) ||| 1065353216#32) - Ideal.ofBits .f32 1065353216#32) * Ideal.ofBits .f32 1065353216#32 + Ideal.ofBits .f32 8388608#32)))
      = ((noise w : ℝ) : EReal) := by
  rw [ofBits_mantissa, ofBits_tiny, ofBits_one, ← EReal.coe_sub, ← EReal.coe_mul, ← EReal.coe_add,
    show ((1 + frac w - 1) * 1 + (2 : ℝ) ^ (-126 : ℤ)) = variate w by unfold variate; ring,
    max_eq_right (EReal.coe_le_coe_iff.mpr (by unfold variate; linarith [frac_nonneg w])), log_coe (variate_pos w), ← EReal.coe_neg,
    log_coe (neg_pos.mpr (Real.log_neg (variate_pos w) (variate_lt_one w))), ← EReal.coe_neg]
  rfl

end Cert.Gumbel

end
-- ==== Proof.TableBits.lean ====
/- What one block of the table kernel computes: at row `r` and lane `l` of block `t`, the noise of the random bits of the
   counter `1000000 r + 2048 t + l`. The kernel adds the key words and the round numbers as merged constants. -/
module

public import proofs.«01_k».proof.Proof.TableRegion
public import proofs.«01_k».proof.Proof.Threefry
public import proofs.«01_k».proof.Proof.Gumbel

@[expose] public section

set_option maxRecDepth 16384

noncomputable section

namespace Cert.KernelIdeal.Table

open Cert.KernelIdeal Cert.KernelIdeal.Gen Cert.KernelIdeal.Run Idealize.ShloMosaic Idealize.ShloMosaic.TcCoe
open Cert Cert.Threefry

/-- The counter of a row and a column of the table, as a word. -/
def counter (r n : ℕ) : BitVec 32 := BitVec.ofNat 32 (1000000 * r + n)

/-- Words of sums and products: the counter's arithmetic. -/
theorem counter_add (r l t : ℕ) (a b c : BitVec 32) (ha : a = BitVec.ofNat 32 1000000) (hb : b = BitVec.ofNat 32 2048) :
    BitVec.ofNat 32 r * a + BitVec.ofNat 32 l + c + BitVec.ofNat 32 t * b = counter r (2048 * t + l) + c := by
  unfold counter
  rw [BitVec.ofNat_add, BitVec.ofNat_add, BitVec.ofNat_mul, BitVec.ofNat_mul, ← ha, ← hb]
  generalize BitVec.ofNat 32 r = x
  generalize BitVec.ofNat 32 l = y
  generalize BitVec.ofNat 32 t = z
  ac_rfl

/-- The second word after the first key injection, at one entry: the counter plus 42. -/
theorem start_apply (i : grid0.Coords) (y : S64x2048.Idx) :
    k0_pay2 i y = counter (y 0).val (2048 * (i 0).val + (y 1).val) + 42#32 := by
  have h1 : iota .tc S64x2048 32 [1] iota_S64x2048_d1_w32 y = BitVec.ofNat 32 (y 1).val := by
    show BitVec.ofNat 32 (0 * _ + (y 1).val) = _
    rw [Nat.zero_mul, Nat.zero_add]
  have h0 : iota .tc S64x2048 32 [0] iota_S64x2048_d0_w32 y = BitVec.ofNat 32 (y 0).val := by
    show BitVec.ofNat 32 (0 * _ + (y 0).val) = _
    rw [Nat.zero_mul, Nat.zero_add]
  show iota .tc S64x2048 32 [0] iota_S64x2048_d0_w32 y * 1000000#32 + iota .tc S64x2048 32 [1] iota_S64x2048_d1_w32 y + 42#32
    + BitVec.ofNat 32 (i 0).val * 2048#32 = _
  rw [h0, h1, counter_add _ _ _ _ _ _ rfl rfl]

/-- One rotation xored into a word, at one entry. -/
theorem turn_apply {s : Shape} (r t : BitVec 32) (hr : r.toNat < 32) (ht : t.toNat < 32) (x b : IVec s 32) (y : s.Idx) :
    xori x (ori (shli b (broadcast s r)) (shrui b (broadcast s t))) y = x y ^^^ spin r t (b y) := by
  show x y ^^^ ((if r.toNat < 32 then b y <<< r else _) ||| (if t.toNat < 32 then b y >>> t else _)) = _
  rw [if_pos hr, if_pos ht]; rfl

/-- The state after the first key injection: the second word plus 42. -/
theorem state_zero (w : BitVec 32) : inject 0#32 42#32 (0#32, w) = (0#32, w + 42#32) := rfl

/-- The state before the last four rounds, at one entry: the kernel's two words are its halves, the first of them
    already with the second added. -/
theorem state_apply (i : grid0.Coords) (y : S64x2048.Idx) {w : BitVec 32} (hw : k0_pay2 i y = w + 42#32) :
    ∃ a, state w = (a, (k0_pay35 (k0_pay41 i) (k0_pay42 i) (k0_pay43 i) 6#32) y) ∧ (k0_pay36 (k0_pay41 i) (k0_pay42 i) (k0_pay43 i) 6#32) y = a + (k0_pay35 (k0_pay41 i) (k0_pay42 i) (k0_pay43 i) 6#32) y := by
  have e1 : inject 42#32 (third + 1#32) (fourA (inject 0#32 42#32 (0#32, w))) = ((k0_pay8 i) y + 42#32, (k0_pay38 i) y) :=
    advance (x1 := (k0_pay2 i) y) (y1 := (k0_pay3 i) y) (x2 := (k0_pay4 i) y) (y2 := (k0_pay5 i) y) (x3 := (k0_pay6 i) y) (y3 := (k0_pay7 i) y) (x4 := (k0_pay8 i) y) (z := (k0_pay38 i) y)
      (a := 0#32) (b := k0_pay2 i y) ((state_zero w).trans (by rw [← hw])) (BitVec.zero_add _).symm
      (turn_apply 13#32 19#32 (by decide) (by decide) (k0_pay2 i) (k0_pay2 i) y) rfl
      (turn_apply 15#32 17#32 (by decide) (by decide) (k0_pay4 i) (k0_pay3 i) y) rfl
      (turn_apply 26#32 6#32 (by decide) (by decide) (k0_pay6 i) (k0_pay5 i) y) rfl
      (congrArg (· + (third + 1#32)) (turn_apply 6#32 26#32 (by decide) (by decide) (k0_pay8 i) (k0_pay7 i) y))
  have e2 : inject third (0#32 + 2#32) (fourB (inject 42#32 (third + 1#32) (fourA (inject 0#32 42#32 (0#32, w))))) = ((k0_pay17 (k0_pay38 i) (k0_pay39 i) (k0_pay40 i) 15#32) y + third, (k0_pay18 (k0_pay38 i) (k0_pay39 i) (k0_pay40 i) 15#32) y) :=
    advance (x1 := (k0_pay39 i) y) (y1 := (k0_pay12 (k0_pay38 i) (k0_pay39 i) (k0_pay40 i) 15#32) y) (x2 := (k0_pay13 (k0_pay38 i) (k0_pay39 i) (k0_pay40 i) 15#32) y) (y2 := (k0_pay14 (k0_pay38 i) (k0_pay39 i) (k0_pay40 i) 15#32) y) (x3 := (k0_pay15 (k0_pay38 i) (k0_pay39 i) (k0_pay40 i) 15#32) y) (y3 := (k0_pay16 (k0_pay38 i) (k0_pay39 i) (k0_pay40 i) 15#32) y) (x4 := (k0_pay17 (k0_pay38 i) (k0_pay39 i) (k0_pay40 i) 15#32) y) (z := (k0_pay18 (k0_pay38 i) (k0_pay39 i) (k0_pay40 i) 15#32) y)
      e1 rfl
      (turn_apply 17#32 15#32 (by decide) (by decide) (k0_pay39 i) (k0_pay38 i) y) rfl
      (turn_apply 29#32 3#32 (by decide) (by decide) (k0_pay13 (k0_pay38 i) (k0_pay39 i) (k0_pay40 i) 15#32) (k0_pay12 (k0_pay38 i) (k0_pay39 i) (k0_pay40 i) 15#32) y) rfl
      (turn_apply 16#32 16#32 (by decide) (by decide) (k0_pay15 (k0_pay38 i) (k0_pay39 i) (k0_pay40 i) 15#32) (k0_pay14 (k0_pay38 i) (k0_pay39 i) (k0_pay40 i) 15#32) y) rfl
      (congrArg (· + (0#32 + 2#32)) (turn_apply 24#32 8#32 (by decide) (by decide) (k0_pay17 (k0_pay38 i) (k0_pay39 i) (k0_pay40 i) 15#32) (k0_pay16 (k0_pay38 i) (k0_pay39 i) (k0_pay40 i) 15#32) y))
  have e3 : inject 0#32 (42#32 + 3#32) (fourA (inject third (0#32 + 2#32) (fourB (inject 42#32 (third + 1#32) (fourA (inject 0#32 42#32 (0#32, w))))))) = ((k0_pay26 (k0_pay41 i) (k0_pay42 i) (k0_pay43 i) 6#32) y + 0#32, (k0_pay27 (k0_pay41 i) (k0_pay42 i) (k0_pay43 i) 6#32) y) :=
    advance (x1 := (k0_pay19 (k0_pay38 i) (k0_pay39 i) (k0_pay40 i) 15#32) y) (y1 := (k0_pay20 (k0_pay38 i) (k0_pay39 i) (k0_pay40 i) 15#32) y) (x2 := (k0_pay21 (k0_pay38 i) (k0_pay39 i) (k0_pay40 i) 15#32) y) (y2 := (k0_pay41 i) y) (x3 := (k0_pay42 i) y) (y3 := (k0_pay25 (k0_pay41 i) (k0_pay42 i) (k0_pay43 i) 6#32) y) (x4 := (k0_pay26 (k0_pay41 i) (k0_pay42 i) (k0_pay43 i) 6#32) y) (z := (k0_pay27 (k0_pay41 i) (k0_pay42 i) (k0_pay43 i) 6#32) y)
      e2 rfl
      (turn_apply 13#32 19#32 (by decide) (by decide) (k0_pay19 (k0_pay38 i) (k0_pay39 i) (k0_pay40 i) 15#32) (k0_pay18 (k0_pay38 i) (k0_pay39 i) (k0_pay40 i) 15#32) y) rfl
      (turn_apply 15#32 17#32 (by decide) (by decide) (k0_pay21 (k0_pay38 i) (k0_pay39 i) (k0_pay40 i) 15#32) (k0_pay20 (k0_pay38 i) (k0_pay39 i) (k0_pay40 i) 15#32) y) rfl
      (turn_apply 26#32 6#32 (by decide) (by decide) (k0_pay42 i) (k0_pay41 i) y) rfl
      (congrArg (· + (42#32 + 3#32)) (turn_apply 6#32 26#32 (by decide) (by decide) (k0_pay26 (k0_pay41 i) (k0_pay42 i) (k0_pay43 i) 6#32) (k0_pay25 (k0_pay41 i) (k0_pay42 i) (k0_pay43 i) 6#32) y))
  have e4 : state w = ((k0_pay34 (k0_pay41 i) (k0_pay42 i) (k0_pay43 i) 6#32) y + 42#32, (k0_pay35 (k0_pay41 i) (k0_pay42 i) (k0_pay43 i) 6#32) y) :=
    advance (x1 := (k0_pay28 (k0_pay41 i) (k0_pay42 i) (k0_pay43 i) 6#32) y) (y1 := (k0_pay29 (k0_pay41 i) (k0_pay42 i) (k0_pay43 i) 6#32) y) (x2 := (k0_pay30 (k0_pay41 i) (k0_pay42 i) (k0_pay43 i) 6#32) y) (y2 := (k0_pay31 (k0_pay41 i) (k0_pay42 i) (k0_pay43 i) 6#32) y) (x3 := (k0_pay32 (k0_pay41 i) (k0_pay42 i) (k0_pay43 i) 6#32) y) (y3 := (k0_pay33 (k0_pay41 i) (k0_pay42 i) (k0_pay43 i) 6#32) y) (x4 := (k0_pay34 (k0_pay41 i) (k0_pay42 i) (k0_pay43 i) 6#32) y) (z := (k0_pay35 (k0_pay41 i) (k0_pay42 i) (k0_pay43 i) 6#32) y)
      e3 (congrArg (· + (k0_pay27 (k0_pay41 i) (k0_pay42 i) (k0_pay43 i) 6#32) y) (BitVec.add_zero _).symm)
      (turn_apply 17#32 15#32 (by decide) (by decide) (k0_pay28 (k0_pay41 i) (k0_pay42 i) (k0_pay43 i) 6#32) (k0_pay27 (k0_pay41 i) (k0_pay42 i) (k0_pay43 i) 6#32) y) rfl
      (turn_apply 29#32 3#32 (by decide) (by decide) (k0_pay30 (k0_pay41 i) (k0_pay42 i) (k0_pay43 i) 6#32) (k0_pay29 (k0_pay41 i) (k0_pay42 i) (k0_pay43 i) 6#32) y) rfl
      (turn_apply 16#32 16#32 (by decide) (by decide) (k0_pay32 (k0_pay41 i) (k0_pay42 i) (k0_pay43 i) 6#32) (k0_pay31 (k0_pay41 i) (k0_pay42 i) (k0_pay43 i) 6#32) y) rfl
      (congrArg (· + (third + 4#32)) (turn_apply 24#32 8#32 (by decide) (by decide) (k0_pay34 (k0_pay41 i) (k0_pay42 i) (k0_pay43 i) 6#32) (k0_pay33 (k0_pay41 i) (k0_pay42 i) (k0_pay43 i) 6#32) y))
  exact ⟨_, e4, rfl⟩

/-- Vectors of words: one half-round, the rotation of `b` xored into `x`. -/
def turn (r s : BitVec 32) (x b : IVec S64x2048 32) : IVec S64x2048 32 :=
  xori x (ori (shli b (broadcast S64x2048 r)) (shrui b (broadcast S64x2048 s)))
/-- The words of the last four rounds, from the two before them (the first with the second already added). -/
def y1 (b x : IVec S64x2048 32) : IVec S64x2048 32 := turn 13#32 19#32 x b
def x2 (b x : IVec S64x2048 32) : IVec S64x2048 32 := addi x (y1 b x)
def y2 (b x : IVec S64x2048 32) : IVec S64x2048 32 := turn 15#32 17#32 (x2 b x) (y1 b x)
def x3 (b x : IVec S64x2048 32) : IVec S64x2048 32 := addi (x2 b x) (y2 b x)
def y3 (b x : IVec S64x2048 32) : IVec S64x2048 32 := turn 26#32 6#32 (x3 b x) (y2 b x)
def x4 (b x : IVec S64x2048 32) : IVec S64x2048 32 := addi (x3 b x) (y3 b x)
def y4 (b x : IVec S64x2048 32) : IVec S64x2048 32 := turn 6#32 26#32 (x4 b x) (y3 b x)
/-- The random bits, after the last key injection. -/
def last (b x : IVec S64x2048 32) : IVec S64x2048 32 :=
  xori (addi (x4 b x) (broadcast S64x2048 466689008#32)) (addi (y4 b x) (broadcast S64x2048 5#32))
/-- The noise of a vector of random bits, as the kernel computes it. -/
def noiseOf (z : IVec S64x2048 32) : FVec Ideal S64x2048 .f32 :=
  k0_pay1 (log (subf (broadcast S64x2048 (Scalar.ofBits .f32 0x00000000#32)) (log (addf (subf (bitcastToFloat .f32
    (ori (shrui z (broadcast S64x2048 9#32)) (broadcast S64x2048 1065353216#32))) (broadcast S64x2048 (Scalar.ofBits .f32 0x3F800000#32)))
      (broadcast S64x2048 (Scalar.ofBits .f32 0x00800000#32)))))) (Scalar.ofBits .f32 0x00000000#32)

/-- What the kernel stores is the noise of the bits of the last four rounds. -/
theorem stored_eq (b x : IVec S64x2048 32) :
    k0_pay1 (F := Ideal) (k0_pay37 b x 13#32) (Scalar.ofBits .f32 0x00000000#32) = noiseOf (last b x) := rfl

/-- The kernel's noise at one entry. -/
theorem noiseOf_apply (z : IVec S64x2048 32) (y : S64x2048.Idx) : noiseOf z y = ((Gumbel.noise (z y) : ℝ) : EReal) := by
  rw [← Gumbel.kernel_noise, ← Ideal.ofBits_zero_f32]
  rfl

/-- The bits of the last four rounds at one entry, from the state before them. -/
theorem last_apply (b x : IVec S64x2048 32) (y : S64x2048.Idx) {a : BitVec 32} (hx : x y = a + b y) {p : BitVec 32 × BitVec 32} (hp : p = (a, b y)) :
    last b x y = (inject third (0#32 + 5#32) (fourA p)).1 ^^^ (inject third (0#32 + 5#32) (fourA p)).2 := by
  have h : inject third (0#32 + 5#32) (fourA p) = (x4 b x y + third, y4 b x y + (0#32 + 5#32)) :=
    advance (x1 := x y) (y1 := (y1 b x) y) (x2 := (x2 b x) y) (y2 := (y2 b x) y) (x3 := (x3 b x) y) (y3 := (y3 b x) y) (x4 := (x4 b x) y) (z := y4 b x y + (0#32 + 5#32))
      hp hx
      (turn_apply 13#32 19#32 (by decide) (by decide) x b y) rfl
      (turn_apply 15#32 17#32 (by decide) (by decide) (x2 b x) (y1 b x) y) rfl
      (turn_apply 26#32 6#32 (by decide) (by decide) (x3 b x) (y2 b x) y) rfl
      (congrArg (· + (0#32 + 5#32)) (turn_apply 6#32 26#32 (by decide) (by decide) (x4 b x) (y3 b x) y))
  rw [h]
  rfl

/-- The block's stored value at one entry. -/
theorem stored_apply (i : grid0.Coords) (y : S64x2048.Idx) :
    k0_pay1 (F := Ideal) (k0_pay37 (k0_pay35 (k0_pay41 i) (k0_pay42 i) (k0_pay43 i) 6#32) (k0_pay36 (k0_pay41 i) (k0_pay42 i) (k0_pay43 i) 6#32) 13#32)
        (Scalar.ofBits .f32 0x00000000#32) y
      = ((Gumbel.noise (bits (counter (y 0).val (2048 * (i 0).val + (y 1).val))) : ℝ) : EReal) := by
  obtain ⟨a, hs, hx⟩ := state_apply i y (start_apply i y)
  rw [stored_eq, noiseOf_apply, last_apply _ _ y hx hs]
  rfl

end Cert.KernelIdeal.Table

end
-- ==== Proof.ReferenceBits.lean ====
/- The reference's random bits, at one entry: row `r` and column `n` get the bits of the counter `1000000 r + n`. The
   reference counts in 64 bits and adds key words and round numbers one at a time. -/
module

public import proofs.«01_k».proof.Proof.ReferenceRun
public import proofs.«01_k».proof.Proof.TableBits
public import Idealize.ShloMosaic.Lib.Pipeline.Value
public import Idealize.ShloMosaic.Lib.ValueIdx

@[expose] public section

set_option maxRecDepth 16384

noncomputable section

namespace Cert.ReferenceIdeal.Bits

open Cert.ReferenceIdeal Cert.ReferenceIdeal.Gen Cert.ReferenceIdeal.Value Idealize.ShloMosaic Idealize.ShloMosaic.TcCoe
open Cert Cert.Threefry
open Cert.KernelIdeal.Table (counter)

/-- One scalar at every entry. -/
abbrev all {α : Type} (x : S_.Idx → α) : S64x1000000.Idx → α := broadcastInDim S64x1000000 ![] bcast_S_S64x1000000 x

/-- One rotation xored into a word, at one entry. -/
theorem turn_apply (r t : BitVec 32) (hr : r.toNat < 32) (ht : t.toNat < 32) (x b : IVec S64x1000000 32) (y : S64x1000000.Idx) :
    xori x (ori (Host.shli b (all (constantI S_ 32 r))) (Host.shrui b (all (constantI S_ 32 t)))) y = x y ^^^ spin r t (b y) := by
  show x y ^^^ ((if r.toNat < 32 then b y <<< r else _) ||| (if t.toNat < 32 then b y >>> t else _)) = _
  rw [if_pos hr, if_pos ht]; rfl

/-- A rotation xored in, then a key word and a round number added, at one entry. -/
theorem turn_inject_apply (r t : BitVec 32) (hr : r.toNat < 32) (ht : t.toNat < 32) (x b : IVec S64x1000000 32) (y : S64x1000000.Idx)
    {k : IVec S_ 32} {kv : BitVec 32} (hk : all k y = kv) (j : BitVec 32) :
    addi (addi (xori x (ori (Host.shli b (all (constantI S_ 32 r))) (Host.shrui b (all (constantI S_ 32 t))))) (all k)) (all (constantI S_ 32 j)) y
      = (x y ^^^ spin r t (b y)) + (kv + j) := by
  rw [← hk, ← BitVec.add_assoc, ← turn_apply r t hr ht x b y]; rfl

/-- A vector's word at one entry. -/
abbrev word {w : ℕ} (x : IVec S64x1000000 w) (y : S64x1000000.Idx) : BitVec w := x y

variable {F : FTy → Type} [FloatOps F]

/-- Two positions in shapes of one entry are the same. -/
theorem unit_row {s t : Shape} (a : Fin s.numel) (b : Fin t.numel) (hs : s.numel = 1) (ht : t.numel = 1) : a.val = b.val := by
  have := a.isLt; have := b.isLt; omega

/-- The seed's two words: the first is 0. -/
theorem seed_one (V0 : Valuation τ sig (Elt F)) (j : S2.Idx) (hj : (j 0).val = 0) : res_main_v14 V0 j = 0#32 := by
  unfold res_main_v14
  rw [concatenate_pair_apply_left 0 _ _ concatenates_S1_S1_S2_d0 j rfl (ValueIdx.ix1 (0 : Fin 1)) (fun b => match b with | ⟨0, _⟩ => hj.symm)]
  rfl
/-- The second is 42. -/
theorem seed_two (V0 : Valuation τ sig (Elt F)) (j : S2.Idx) (hj : (j 0).val = 1) : res_main_v14 V0 j = 42#32 := by
  unfold res_main_v14
  rw [concatenate_pair_apply_right 0 _ _ concatenates_S1_S1_S2_d0 j rfl rfl (ValueIdx.ix1 (0 : Fin 1)) (fun b hb => match b with | ⟨0, _⟩ => absurd rfl hb) (by rw [hj]; rfl)]
  show (42#32 &&& 4294967295#32 : BitVec 32) = 42#32
  decide
/-- The key's first word is 0. -/
theorem key_one (V0 : Valuation τ sig (Elt F)) (y : S64x1000000.Idx) : all (res_main_v16 V0) y = 0#32 := by
  have h : ∀ i, res_main_v16 V0 i = 0#32 := fun i => by
    unfold res_main_v16
    rw [shapeCast_apply _ _ i (ValueIdx.ix1 (0 : Fin 1)) (unit_row _ _ rfl rfl)]
    exact seed_one V0 _ rfl
  exact h _
/-- The key's second word is 42. -/
theorem key_two (V0 : Valuation τ sig (Elt F)) (y : S64x1000000.Idx) : all (res_main_v18 V0) y = 42#32 := by
  have h : ∀ i, res_main_v18 V0 i = 42#32 := fun i => by
    unfold res_main_v18
    rw [shapeCast_apply _ _ i (ValueIdx.ix1 (0 : Fin 1)) (unit_row _ _ rfl rfl)]
    exact seed_two V0 _ rfl
  exact h _
/-- The key's third word. -/
theorem key_three (V0 : Valuation τ sig (Elt F)) (y : S64x1000000.Idx) : all (res_main_call0_v1 V0) y = third :=
  (congrArg₂ (fun a b : BitVec 32 => (a ^^^ b) ^^^ 466688986#32) (key_one V0 y) (key_two V0 y))

/-- The 64-bit counter at one entry. -/
theorem wide_apply (V0 : Valuation τ sig (Elt F)) (y : S64x1000000.Idx) : word (res_main_v25 V0) y = BitVec.ofNat 64 (1000000 * (y 0).val + (y 1).val) := by
  show 1000000#64 * BitVec.ofNat 64 (y 0).val + 1#64 * BitVec.ofNat 64 (y 1).val = _
  rw [BitVec.one_mul, BitVec.ofNat_add, BitVec.ofNat_mul]

/-- The counter's low word. -/
theorem low_apply (V0 : Valuation τ sig (Elt F)) (y : S64x1000000.Idx) : trunci 32 (res_main_v25 V0) natLt_32_64 y = counter (y 0).val (y 1).val := by
  show BitVec.setWidth 32 (word (res_main_v25 V0) y) = BitVec.ofNat 32 (1000000 * (y 0).val + (y 1).val)
  rw [wide_apply]
  exact BitVec.setWidth_ofNat_of_le (by decide) _

/-- The counter's high word is 0. -/
theorem high_apply (V0 : Valuation τ sig (Elt F)) (y : S64x1000000.Idx) :
    trunci 32 (Host.shrui (res_main_v25 V0) (all (constantI S_ 64 32#64))) natLt_32_64 y = 0#32 := by
  have ew : ∀ x : BitVec 64, IntOp.shrui .host x 32#64 = x >>> (32#64 : BitVec 64) := fun x => if_pos (by decide)
  have e0 : word (Host.shrui (res_main_v25 V0) (all (constantI S_ 64 32#64))) y = word (res_main_v25 V0) y >>> (32#64 : BitVec 64) := ew _
  show BitVec.setWidth 32 (word (Host.shrui (res_main_v25 V0) (all (constantI S_ 64 32#64))) y) = _
  rw [e0, wide_apply]
  have h0 : (y 0).val < 64 := (y 0).isLt
  have h1 : (y 1).val < 1000000 := (y 1).isLt
  generalize (y 0).val = r at h0 ⊢
  generalize (y 1).val = n at h1 ⊢
  have e : BitVec.ofNat 64 (1000000 * r + n) >>> (32#64 : BitVec 64) = 0#64 := by
    refine BitVec.eq_of_toNat_eq ?_
    rw [BitVec.ushiftRight_eq', BitVec.toNat_ushiftRight, BitVec.toNat_ofNat, Nat.shiftRight_eq_div_pow]
    show (1000000 * r + n) % 18446744073709551616 / 4294967296 = 0
    rw [Nat.mod_eq_of_lt (by omega), Nat.div_eq_of_lt (by omega)]
  rw [e]
  rfl

/-- The second word after the first key injection. -/
theorem start_apply (V0 : Valuation τ sig (Elt F)) (y : S64x1000000.Idx) : word (res_main_call0_v5 V0) y = counter (y 0).val (y 1).val + 42#32 :=
  congrArg₂ (· + ·) (low_apply V0 y) (key_two V0 y)

/-- The first word after it, with the second added. -/
theorem first_apply (V0 : Valuation τ sig (Elt F)) (y : S64x1000000.Idx) : word (res_main_call0_v6 V0) y = 0#32 + word (res_main_call0_v5 V0) y :=
  congrArg (· + word (res_main_call0_v5 V0) y) (congrArg₂ (· + ·) (high_apply V0 y) (key_one V0 y))

/-- The state after the first key injection: the second word plus 42. -/
theorem state_zero (w : BitVec 32) : inject 0#32 42#32 (0#32, w) = (0#32, w + 42#32) := rfl

/-- The state before the last four rounds, at one entry. -/
theorem state_apply (V0 : Valuation τ sig (Elt F)) (y : S64x1000000.Idx) {w : BitVec 32} (hw : word (res_main_call0_v5 V0) y = w + 42#32) :
    state w = (word (res_main_call0_v129 V0) y + 42#32, word (res_main_call0_v141 V0) y) := by
  have h6 := first_apply V0 y
  have e1 : inject 42#32 (third + 1#32) (fourA (inject 0#32 42#32 (0#32, w))) = (word (res_main_call0_v27 V0) y + 42#32, word (res_main_call0_v39 V0) y) :=
    advance (x1 := word (res_main_call0_v6 V0) y) (y1 := word (res_main_call0_v12 V0) y) (x2 := word (res_main_call0_v13 V0) y) (y2 := word (res_main_call0_v19 V0) y) (x3 := word (res_main_call0_v20 V0) y) (y3 := word (res_main_call0_v26 V0) y) (x4 := word (res_main_call0_v27 V0) y) (z := word (res_main_call0_v39 V0) y)
      (a := 0#32) (b := word (res_main_call0_v5 V0) y) ((state_zero w).trans (by rw [hw])) h6
      (turn_apply 13#32 19#32 (by decide) (by decide) (res_main_call0_v6 V0) (res_main_call0_v5 V0) y) rfl
      (turn_apply 15#32 17#32 (by decide) (by decide) (res_main_call0_v13 V0) (res_main_call0_v12 V0) y) rfl
      (turn_apply 26#32 6#32 (by decide) (by decide) (res_main_call0_v20 V0) (res_main_call0_v19 V0) y) rfl
      (turn_inject_apply 6#32 26#32 (by decide) (by decide) (res_main_call0_v27 V0) (res_main_call0_v26 V0) y (key_three V0 y) 1#32)
  have e2 : inject third (0#32 + 2#32) (fourB (inject 42#32 (third + 1#32) (fourA (inject 0#32 42#32 (0#32, w))))) = (word (res_main_call0_v61 V0) y + third, word (res_main_call0_v73 V0) y) :=
    advance (x1 := word (res_main_call0_v40 V0) y) (y1 := word (res_main_call0_v46 V0) y) (x2 := word (res_main_call0_v47 V0) y) (y2 := word (res_main_call0_v53 V0) y) (x3 := word (res_main_call0_v54 V0) y) (y3 := word (res_main_call0_v60 V0) y) (x4 := word (res_main_call0_v61 V0) y) (z := word (res_main_call0_v73 V0) y)
      e1 (congrArg (word (res_main_call0_v27 V0) y + · + word (res_main_call0_v39 V0) y) (key_two V0 y))
      (turn_apply 17#32 15#32 (by decide) (by decide) (res_main_call0_v40 V0) (res_main_call0_v39 V0) y) rfl
      (turn_apply 29#32 3#32 (by decide) (by decide) (res_main_call0_v47 V0) (res_main_call0_v46 V0) y) rfl
      (turn_apply 16#32 16#32 (by decide) (by decide) (res_main_call0_v54 V0) (res_main_call0_v53 V0) y) rfl
      (turn_inject_apply 24#32 8#32 (by decide) (by decide) (res_main_call0_v61 V0) (res_main_call0_v60 V0) y (key_one V0 y) 2#32)
  have e3 : inject 0#32 (42#32 + 3#32) (fourA (inject third (0#32 + 2#32) (fourB (inject 42#32 (third + 1#32) (fourA (inject 0#32 42#32 (0#32, w))))))) = (word (res_main_call0_v95 V0) y + 0#32, word (res_main_call0_v107 V0) y) :=
    advance (x1 := word (res_main_call0_v74 V0) y) (y1 := word (res_main_call0_v80 V0) y) (x2 := word (res_main_call0_v81 V0) y) (y2 := word (res_main_call0_v87 V0) y) (x3 := word (res_main_call0_v88 V0) y) (y3 := word (res_main_call0_v94 V0) y) (x4 := word (res_main_call0_v95 V0) y) (z := word (res_main_call0_v107 V0) y)
      e2 (congrArg (word (res_main_call0_v61 V0) y + · + word (res_main_call0_v73 V0) y) (key_three V0 y))
      (turn_apply 13#32 19#32 (by decide) (by decide) (res_main_call0_v74 V0) (res_main_call0_v73 V0) y) rfl
      (turn_apply 15#32 17#32 (by decide) (by decide) (res_main_call0_v81 V0) (res_main_call0_v80 V0) y) rfl
      (turn_apply 26#32 6#32 (by decide) (by decide) (res_main_call0_v88 V0) (res_main_call0_v87 V0) y) rfl
      (turn_inject_apply 6#32 26#32 (by decide) (by decide) (res_main_call0_v95 V0) (res_main_call0_v94 V0) y (key_two V0 y) 3#32)
  have e4 : state w = (word (res_main_call0_v129 V0) y + 42#32, word (res_main_call0_v141 V0) y) :=
    advance (x1 := word (res_main_call0_v108 V0) y) (y1 := word (res_main_call0_v114 V0) y) (x2 := word (res_main_call0_v115 V0) y) (y2 := word (res_main_call0_v121 V0) y) (x3 := word (res_main_call0_v122 V0) y) (y3 := word (res_main_call0_v128 V0) y) (x4 := word (res_main_call0_v129 V0) y) (z := word (res_main_call0_v141 V0) y)
      e3 (congrArg (word (res_main_call0_v95 V0) y + · + word (res_main_call0_v107 V0) y) (key_one V0 y))
      (turn_apply 17#32 15#32 (by decide) (by decide) (res_main_call0_v108 V0) (res_main_call0_v107 V0) y) rfl
      (turn_apply 29#32 3#32 (by decide) (by decide) (res_main_call0_v115 V0) (res_main_call0_v114 V0) y) rfl
      (turn_apply 16#32 16#32 (by decide) (by decide) (res_main_call0_v122 V0) (res_main_call0_v121 V0) y) rfl
      (turn_inject_apply 24#32 8#32 (by decide) (by decide) (res_main_call0_v129 V0) (res_main_call0_v128 V0) y (key_three V0 y) 4#32)
  exact e4

/-- The random bits, from the words of the last four rounds. -/
def last (V0 : Valuation τ sig (Elt F)) : IVec S64x1000000 32 :=
  xori (addi (res_main_call0_v163 V0) (all (res_main_call0_v1 V0)))
    (addi (addi (xori (res_main_call0_v163 V0) (ori (Host.shli (res_main_call0_v162 V0) (all (constantI S_ 32 6#32)))
      (Host.shrui (res_main_call0_v162 V0) (all (constantI S_ 32 26#32))))) (all (res_main_v16 V0))) (all (constantI S_ 32 5#32)))

/-- The random bits at one entry. -/
theorem last_apply (V0 : Valuation τ sig (Elt F)) (y : S64x1000000.Idx) : last V0 y = bits (counter (y 0).val (y 1).val) := by
  have e4 := state_apply V0 y (start_apply V0 y)
  have e5 : words (counter (y 0).val (y 1).val) = (word (res_main_call0_v163 V0) y + third, (addi (addi (xori (res_main_call0_v163 V0) (ori (Host.shli (res_main_call0_v162 V0) (all (constantI S_ 32 6#32)))
      (Host.shrui (res_main_call0_v162 V0) (all (constantI S_ 32 26#32))))) (all (res_main_v16 V0))) (all (constantI S_ 32 5#32))) y) :=
    advance (x1 := word (res_main_call0_v142 V0) y) (y1 := word (res_main_call0_v148 V0) y) (x2 := word (res_main_call0_v149 V0) y) (y2 := word (res_main_call0_v155 V0) y) (x3 := word (res_main_call0_v156 V0) y) (y3 := word (res_main_call0_v162 V0) y) (x4 := word (res_main_call0_v163 V0) y)
      e4 (congrArg (word (res_main_call0_v129 V0) y + · + word (res_main_call0_v141 V0) y) (key_two V0 y))
      (turn_apply 13#32 19#32 (by decide) (by decide) (res_main_call0_v142 V0) (res_main_call0_v141 V0) y) rfl
      (turn_apply 15#32 17#32 (by decide) (by decide) (res_main_call0_v149 V0) (res_main_call0_v148 V0) y) rfl
      (turn_apply 26#32 6#32 (by decide) (by decide) (res_main_call0_v156 V0) (res_main_call0_v155 V0) y) rfl
      (turn_inject_apply 6#32 26#32 (by decide) (by decide) (res_main_call0_v163 V0) (res_main_call0_v162 V0) y (key_one V0 y) 5#32)
  rw [bits, e5]
  exact congrArg (fun k => (word (res_main_call0_v163 V0) y + k) ^^^ _) (key_three V0 y)

end Cert.ReferenceIdeal.Bits

end
-- ==== Proof.First.lean ====
/- The first column of largest score: the one thing both programs compute. Functions of a column number with extended real
   values, no program. -/
module

public import Idealize.ShloMosaic.PureOps.Ideal

@[expose] public section

namespace Cert

/-- `k` is the first column below `N` at which `s` is largest. -/
structure First (s : ℕ → EReal) (N k : ℕ) : Prop where
  lt : k < N
  le : ∀ n < N, s n ≤ s k
  before : ∀ n < k, s n < s k

namespace First

/-- There is at most one such column. -/
theorem unique {s : ℕ → EReal} {N k l : ℕ} (hk : First s N k) (hl : First s N l) : k = l := by
  rcases lt_trichotomy k l with h | h | h
  · exact absurd (hl.before k h) (not_lt.mpr (hk.le l hl.lt))
  · exact h
  · exact absurd (hk.before l h) (not_lt.mpr (hl.le k hk.lt))

/-- Scores ordered alike have the same first largest column. -/
theorem congr {s s' : ℕ → EReal} {N k : ℕ} (h : ∀ n < N, ∀ l < N, s n ≤ s l ↔ s' n ≤ s' l) (hk : First s N k) : First s' N k :=
  ⟨hk.lt, fun n hn => (h n hn k hk.lt).mp (hk.le n hn), fun n hn =>
    lt_of_not_ge fun hle => absurd (hk.before n hn) (not_lt.mpr ((h k hk.lt n (hn.trans hk.lt)).mpr hle))⟩

/-- It is a column of largest score that no earlier column attains. -/
theorem of_least {s : ℕ → EReal} {N k : ℕ} (hk : k < N) (hle : ∀ n < N, s n ≤ s k) (hleast : ∀ n < N, s n = s k → k ≤ n) : First s N k :=
  ⟨hk, hle, fun n hn => lt_of_le_of_ne (hle n (hn.trans hk)) fun e => absurd (hleast n (hn.trans hk) e) (not_le.mpr hn)⟩

end First

/-- The score of the reference and of the last kernel: logit less the largest logit, plus noise. -/
noncomputable def shifted (c : ℕ → EReal) (g : ℕ → ℝ) (m : EReal) (n : ℕ) : EReal := (c n - m) + (g n : EReal)
/-- The score of the scan: logit plus noise. -/
noncomputable def plain (c : ℕ → EReal) (g : ℕ → ℝ) (n : ℕ) : EReal := c n + (g n : EReal)

/-- Taking off an upper bound of the logits that is not plus infinity keeps the order of the scores. -/
theorem shifted_le_iff (c : ℕ → EReal) (g : ℕ → ℝ) (m : EReal) (hm : m ≠ ⊤) {n l : ℕ} (hn : c n ≤ m) (hl : c l ≤ m) :
    shifted c g m n ≤ shifted c g m l ↔ plain c g n ≤ plain c g l := by
  unfold shifted plain
  generalize c n = x at hn ⊢
  generalize c l = y at hl ⊢
  generalize g n = p
  generalize g l = q
  induction m with
  | top => exact absurd rfl hm
  | bot =>
    rw [le_bot_iff] at hn hl
    subst hn hl
    simp [sub_eq_add_neg]
  | coe m =>
    induction x with
    | bot => simp [sub_eq_add_neg]
    | top => exact absurd hn (by simp)
    | coe x =>
      induction y with
      | top => exact absurd hl (by simp)
      | bot =>
        rw [← EReal.coe_sub, ← EReal.coe_add, ← EReal.coe_add]
        simp [sub_eq_add_neg]
      | coe y =>
        rw [← EReal.coe_sub, ← EReal.coe_add, ← EReal.coe_add, ← EReal.coe_sub, ← EReal.coe_add, ← EReal.coe_add, EReal.coe_le_coe_iff, EReal.coe_le_coe_iff]
        constructor <;> intro h <;> linarith

/-- A score is minus infinity exactly when its logit is. -/
theorem plain_eq_bot_iff (c : ℕ → EReal) (g : ℕ → ℝ) (n : ℕ) : plain c g n = ⊥ ↔ c n = ⊥ := by
  unfold plain
  rw [EReal.add_eq_bot_iff]
  simp

end Cert
-- ==== Proof.ArgMax.lean ====
/- The reference's arg-max, read at one row: the body that keeps the greater value, and of equal values the smaller
   index, folded over a row of scores and their column numbers, leaves the first column of largest score. -/
module

public import proofs.«01_k».proof.Proof.ReferenceOps
public import proofs.«01_k».proof.Proof.First
public import Idealize.ShloMosaic.Lib.ValueIdx
public import Idealize.ShloMosaic.PureOps.Ideal.Laws

@[expose] public section

set_option maxRecDepth 16384

noncomputable section

namespace Cert.ReferenceIdeal.ArgMax

open Cert.ReferenceIdeal Cert.ReferenceIdeal.Gen Idealize.ShloMosaic Idealize.ShloMosaic.ValueIdx
open Cert

/-- Of two scored columns the better one: the greater score, and of equal scores the smaller column number. -/
def Better (p q : EReal × BitVec 32) : Prop := q.1 < p.1 ∨ (q.1 = p.1 ∧ p.2.toInt ≤ q.2.toInt)

theorem Better.refl (p : EReal × BitVec 32) : Better p p := Or.inr ⟨rfl, le_rfl⟩

theorem Better.trans {p q r : EReal × BitVec 32} (h : Better p q) (k : Better q r) : Better p r := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- The body returns one of its two arguments, and a better one than either. -/
theorem step (p q : EReal × BitVec 32) :
    (reducer_argmax_f32_i32 (F := Ideal) p q = p ∨ reducer_argmax_f32_i32 (F := Ideal) p q = q)
      ∧ Better (reducer_argmax_f32_i32 (F := Ideal) p q) p ∧ Better (reducer_argmax_f32_i32 (F := Ideal) p q) q := by
  obtain ⟨x, i⟩ := p
  obtain ⟨y, j⟩ := q
  have e : reducer_argmax_f32_i32 (F := Ideal) (x, i) (y, j)
      = (Scalar.select (IntOp.ori (BitVec.ofBool (decide (y < x))) (BitVec.ofBool (decide (x ≠ x)))) x y,
         Scalar.select (IntOp.ori (IntOp.ori (BitVec.ofBool (decide (y < x))) (BitVec.ofBool (decide (x ≠ x))))
           (IntOp.andi (BitVec.ofBool (decide (x = y))) (BitVec.ofBool (i.slt j)))) i j) := rfl
  rw [e, decide_eq_false (p := x ≠ x) (fun h => h rfl)]
  rcases lt_trichotomy x y with h | h | h
  · rw [decide_eq_false (p := y < x) (not_lt.mpr h.le), decide_eq_false (p := x = y) h.ne]
    have e2 : (Scalar.select (IntOp.ori (BitVec.ofBool false) (BitVec.ofBool false)) x y,
        Scalar.select (IntOp.ori (IntOp.ori (BitVec.ofBool false) (BitVec.ofBool false)) (IntOp.andi (BitVec.ofBool false) (BitVec.ofBool (i.slt j)))) i j) = (y, j) := by
      cases i.slt j <;> rfl
    rw [e2]
    exact ⟨Or.inr rfl, Or.inl h, Better.refl _⟩
  · subst h
    rw [decide_eq_false (p := x < x) (lt_irrefl x), decide_eq_true (p := x = x) rfl]
    rcases hb : i.slt j with _ | _
    · have : j.toInt ≤ i.toInt := by
        rw [BitVec.slt, decide_eq_false_iff_not] at hb; omega
      exact ⟨Or.inr rfl, Or.inr ⟨rfl, this⟩, Better.refl _⟩
    · have : i.toInt < j.toInt := by
        rw [BitVec.slt, decide_eq_true_iff] at hb; exact hb
      exact ⟨Or.inl rfl, Better.refl _, Or.inr ⟨rfl, this.le⟩⟩
  · rw [decide_eq_true (p := y < x) h, decide_eq_false (p := x = y) h.ne']
    have e2 : (Scalar.select (IntOp.ori (BitVec.ofBool true) (BitVec.ofBool false)) x y,
        Scalar.select (IntOp.ori (IntOp.ori (BitVec.ofBool true) (BitVec.ofBool false)) (IntOp.andi (BitVec.ofBool false) (BitVec.ofBool (i.slt j)))) i j) = (x, i) := by
      cases i.slt j <;> rfl
    rw [e2]
    exact ⟨Or.inl rfl, Better.refl _, Or.inl h⟩

/-- Folding the body over a list keeps one of the pairs seen, better than all of them. -/
theorem fold (L : List (EReal × BitVec 32)) (p : EReal × BitVec 32) :
    (L.foldl (reducer_argmax_f32_i32 (F := Ideal)) p = p ∨ L.foldl (reducer_argmax_f32_i32 (F := Ideal)) p ∈ L)
      ∧ Better (L.foldl (reducer_argmax_f32_i32 (F := Ideal)) p) p ∧ ∀ q ∈ L, Better (L.foldl (reducer_argmax_f32_i32 (F := Ideal)) p) q := by
  induction L generalizing p with
  | nil => exact ⟨Or.inl rfl, Better.refl _, fun q hq => absurd hq List.not_mem_nil⟩
  | cons a L ih =>
    obtain ⟨h1, h2, h3⟩ := ih (reducer_argmax_f32_i32 (F := Ideal) p a)
    obtain ⟨s1, s2, s3⟩ := step p a
    rw [List.foldl_cons]
    refine ⟨?_, h2.trans s2, fun q hq => ?_⟩
    · rcases h1 with h1 | h1
      · rw [h1]
        rcases s1 with s1 | s1
        · exact Or.inl s1
        · exact Or.inr (by rw [s1]; exact List.mem_cons_self)
      · exact Or.inr (List.mem_cons_of_mem _ h1)
    · rcases List.mem_cons.mp hq with rfl | hq
      · exact h2.trans s3
      · exact h3 q hq

variable {a n : ℕ}

/-- An index that drops to row `r` is that row at its own column. -/
theorem drop_row (h : (⟨2, ![a, n]⟩ : Shape).ReducesTo [1] ⟨1, ![a]⟩) (i : (⟨2, ![a, n]⟩ : Shape).Idx) (r : Fin a) :
    h.drop i = ix1 r ↔ i 0 = r := by
  have e : (h.drop i 0).val = (i 0).val := h.drop_apply_val_of_eq i 0 0 Nat.zero_lt_one rfl
  constructor
  · intro hi
    have := congrArg (fun j => (j 0).val) hi
    exact Fin.ext (e.symm.trans this)
  · intro hi
    funext d
    match d with
    | ⟨0, _⟩ => exact Fin.ext (e.trans (congrArg Fin.val hi))

/-- The pairs the fold runs over at row `r` are the row's, one a column. -/
theorem mem_fiber (x : FVec Ideal ⟨2, ![a, n]⟩ .f32) (y : (⟨2, ![a, n]⟩ : Shape).Idx → BitVec 32) (h : (⟨2, ![a, n]⟩ : Shape).ReducesTo [1] ⟨1, ![a]⟩)
    (r : Fin a) (q : EReal × BitVec 32) : q ∈ Host.argReduceFiber x y h (ix1 r) ↔ ∃ l : Fin n, q = (x (ix2 r l), y (ix2 r l)) := by
  unfold Host.argReduceFiber
  rw [List.mem_map]
  constructor
  · rintro ⟨k, hk, rfl⟩
    have h0 := (drop_row h _ r).mp (of_decide_eq_true (List.mem_filter.mp hk).2)
    refine ⟨(Shape.rowMajor _).symm k 1, ?_⟩
    have e := eq_ix2 ((Shape.rowMajor (⟨2, ![a, n]⟩ : Shape)).symm k)
    rw [h0] at e
    exact congrArg (fun i => (x i, y i)) e
  · rintro ⟨l, rfl⟩
    refine ⟨Shape.rowMajor _ (ix2 r l), List.mem_filter.mpr ⟨List.mem_finRange _, decide_eq_true ?_⟩, ?_⟩
    · rw [Equiv.symm_apply_apply]; exact (drop_row h _ r).mpr rfl
    · rw [Equiv.symm_apply_apply]

/-- Of a row whose column numbers are kept beside its scores, the reference's arg-max is the first column of largest
    score. -/
theorem first (x : FVec Ideal ⟨2, ![a, n]⟩ .f32) (y : (⟨2, ![a, n]⟩ : Shape).Idx → BitVec 32) {u : Shape} (ix : FVec Ideal u .f32) (iy : u.Idx → BitVec 32)
    (h : (⟨2, ![a, n]⟩ : Shape).ReducesTo [1] ⟨1, ![a]⟩) (hu : 0 < u.numel) (r : Fin a) (hn : 0 < n) (hN : n < 2147483648)
    (hx : ix (Shape.Idx.first hu) = (⊥ : EReal)) (hi : iy (Shape.Idx.first hu) = 0#32) (hy : ∀ l : Fin n, y (ix2 r l) = BitVec.ofNat 32 l.val)
    (toInt : ∀ k : ℕ, k < n → (BitVec.ofNat 32 k).toInt = k)
    (s : ℕ → EReal) (hs : ∀ l : Fin n, x (ix2 r l) = s l.val) :
    ∃ k, First s n k ∧ (Host.argReduce reducer_argmax_f32_i32 x y ix iy h hu (ix1 r)).2 = BitVec.ofNat 32 k := by
  rw [Ideal.argReduce_eq_reduce2, Host.reduce2_eq_foldl_fiber, hx, hi]
  obtain ⟨h1, h2, h3⟩ := fold (Host.argReduceFiber x y h (ix1 r)) (⊥, 0#32)
  generalize (Host.argReduceFiber x y h (ix1 r)).foldl (reducer_argmax_f32_i32 (F := Ideal)) (⊥, 0#32) = w at h1 h2 h3
  have better : ∀ l, l < n → Better w (s l, BitVec.ofNat 32 l) := fun l hl => by
    have := h3 _ ((mem_fiber x y h r _).mpr ⟨⟨l, hl⟩, rfl⟩)
    rw [hs, hy] at this; exact this
  have hk : ∃ k, k < n ∧ w = (s k, BitVec.ofNat 32 k) := by
    rcases h1 with rfl | h1
    · rcases better 0 hn with hb | ⟨hb, -⟩
      · exact absurd hb (not_lt.mpr bot_le)
      · exact ⟨0, hn, Prod.ext hb.symm rfl⟩
    · obtain ⟨l, hl⟩ := (mem_fiber x y h r _).mp h1
      exact ⟨l.val, l.isLt, by rw [hl, hs, hy]⟩
  obtain ⟨k, hkn, rfl⟩ := hk
  refine ⟨k, First.of_least hkn (fun l hl => ?_) (fun l hl e => ?_), rfl⟩
  · rcases better l hl with hb | ⟨hb, -⟩
    · exact hb.le
    · exact hb.le
  · rcases better l hl with hb | ⟨-, hb⟩
    · exact absurd hb (not_lt.mpr e.ge)
    · have : (BitVec.ofNat 32 k).toInt ≤ (BitVec.ofNat 32 l).toInt := hb
      rw [toInt k hkn, toInt l hl] at this
      exact_mod_cast this

/-- The row's largest entry, as the reference's reduction gives it, bounds the row. -/
theorem le_rowMax (v : FVec Ideal ⟨2, ![a, n]⟩ .f32) {u : Shape} (init : FVec Ideal u .f32) (h : (⟨2, ![a, n]⟩ : Shape).ReducesTo [1] ⟨1, ![a]⟩) (hu : 0 < u.numel)
    (r : Fin a) (l : Fin n) : v (ix2 r l) ≤ (Host.reduce (max : EReal → EReal → EReal) v init h hu (ix1 r) : EReal) := by
  rw [Host.reduce_eq_fold]
  exact (Finset.le_fold_max _).mpr (Or.inr ⟨ix2 r l, Finset.mem_filter.mpr ⟨Finset.mem_univ _, (drop_row h _ r).mpr rfl⟩, le_rfl⟩)

/-- A bound of every entry of a row, and of the initial value, bounds the row's maximum. -/
theorem rowMax_le (v : FVec Ideal ⟨2, ![a, n]⟩ .f32) {u : Shape} (init : FVec Ideal u .f32) (h : (⟨2, ![a, n]⟩ : Shape).ReducesTo [1] ⟨1, ![a]⟩) (hu : 0 < u.numel)
    (r : Fin a) (B : EReal) (hi : init (Shape.Idx.first hu) ≤ B) (hB : ∀ l : Fin n, v (ix2 r l) ≤ B) : (Host.reduce (max : EReal → EReal → EReal) v init h hu (ix1 r) : EReal) ≤ B := by
  rw [Host.reduce_eq_fold]
  refine (Finset.fold_max_le B).mpr ⟨hi, fun i hmem => ?_⟩
  have h0 := (drop_row h i r).mp (Finset.mem_filter.mp hmem).2
  rw [eq_ix2 i, h0]; exact hB (i 1)

end Cert.ReferenceIdeal.ArgMax

end
-- ==== Proof.TableArray.lean ====
/- The table the first kernel leaves: at row `r` and column `n`, the noise of the random bits of the counter
   `1000000 r + n`. -/
module

public import proofs.«01_k».proof.Proof.TableBits
public import proofs.«01_k».proof.Proof.TableRegion
public import Idealize.ShloMosaic.Lib.Pipeline.ValueKit

@[expose] public section

set_option maxRecDepth 16384

noncomputable section

namespace Cert.KernelIdeal.Table

open Cert.KernelIdeal Cert.KernelIdeal.Gen Cert.KernelIdeal.Run Idealize.ShloMosaic Idealize.ShloMosaic.TcCoe
open Cert Cert.Threefry

/-- The noise at a row and a column. -/
def gum (r n : ℕ) : ℝ := Gumbel.noise (bits (counter r n))

/-- Block `t` starts at row 0 and column `2048 t`. -/
theorem index0 : ∀ t : Fin cfg0.N, win0_0.index t = ![0, (grid0.coords t 0).val] :=
  (by decide +kernel : ∀ t : Fin grid0.N, win0_0.index t = ![0, (grid0.coords t 0).val])

/-- What the body leaves at one entry of its block. -/
theorem out_apply (i : grid0.Coords) (y : S64x2048.Idx) :
    out0_0 (F := Ideal) i y = ((gum (y 0).val (2048 * (i 0).val + (y 1).val) : ℝ) : EReal) := by
  refine Eq.trans ?_ (stored_apply i y)
  unfold out0_0
  frame_out

/-- The table after the first kernel. -/
theorem array (V : (c : Dev nD) → (b : Ref sig .tc) → Buf (Elt Ideal) ((c : Thread nD τ).loc b)) (c : Dev nD) :
    (dat0 V c).arrAt 0 cfg0.N = fun i : S64x1000000.Idx => ((gum (i 0).val (i 1).val : ℝ) : EReal) := by
  refine (dat0 V c).arrAt_eq_of_covers 0 _ (by decide +kernel) fun t hf y => ?_
  blk_simp [index0]
  rw [after0_0, out_apply]
  rw [Nat.mul_comm 2048]

end Cert.KernelIdeal.Table

end
-- ==== Proof.Rows.lean ====
/- A row's largest entry and its least word: the kernels' reductions along axis 1, read at one row, over the extended reals
   and over signed 32-bit words. -/
module

public import Idealize.ShloMosaic.Lib.ValueIdx
public import Idealize.ShloMosaic.Lib.ValueLayoutCasts
public import Idealize.ShloMosaic.Lib.SortNet.Extract
public import Idealize.ShloMosaic.PureOps.Ideal.Laws

@[expose] public section

noncomputable section

namespace Cert.Rows

open Idealize.ShloMosaic Idealize.ShloMosaic.ValueIdx

variable {a n : ℕ}

/-- The pattern of minus infinity. -/
theorem ofBits_bot : Ideal.ofBits .f32 0xFF800000#32 = (⊥ : EReal) := by simp [Ideal.ofBits, Ideal.ieee]

/-- An index that drops to row `r` is that row at its own column. -/
theorem drop_row (h : (⟨2, ![a, n]⟩ : Shape).Reduces [1] ⟨1, ![a]⟩) (i : (⟨2, ![a, n]⟩ : Shape).Idx) (r : Fin a) :
    h.drop i = ix1 r ↔ i 0 = r := by
  have e : (h.drop i 0).val = (i 0).val := h.drop_apply_val_of_eq i 0 0 Nat.zero_lt_one rfl
  constructor
  · intro hi
    have := congrArg (fun j => (j 0).val) hi
    exact Fin.ext (e.symm.trans this)
  · intro hi
    funext d
    match d with
    | ⟨0, _⟩ => exact Fin.ext (e.trans (congrArg Fin.val hi))

/-- A bound of every entry of a row bounds the row's maximum. -/
theorem rowMax_le (v : FVec Ideal ⟨2, ![a, n]⟩ .f32) (h : (⟨2, ![a, n]⟩ : Shape).Reduces [1] ⟨1, ![a]⟩) (hφ : FKind.Formats .f32)
    (hacc : (0xFF800000#32 : BitVec 32) = FKind.maximumf.neutral .f32 hφ) (r : Fin a) (B : EReal) (hB : ∀ l : Fin n, v (ix2 r l) ≤ B) :
    multiReduction .maximumf [1] ⟨1, ![a]⟩ v 0xFF800000#32 h hφ hacc (ix1 r) ≤ B := by
  rw [multiReduction_maximumf_eq_fold]
  refine (Finset.fold_max_le B).mpr ⟨?_, fun i hi => ?_⟩
  · show Ideal.ofBits .f32 0xFF800000#32 ≤ B
    rw [ofBits_bot]; exact bot_le
  · have h0 := (drop_row h i r).mp (Finset.mem_filter.mp hi).2
    rw [eq_ix2 i, h0]; exact hB (i 1)

/-- Every entry of a row is at most the row's maximum. -/
theorem le_rowMax (v : FVec Ideal ⟨2, ![a, n]⟩ .f32) (h : (⟨2, ![a, n]⟩ : Shape).Reduces [1] ⟨1, ![a]⟩) (hφ : FKind.Formats .f32)
    (hacc : (0xFF800000#32 : BitVec 32) = FKind.maximumf.neutral .f32 hφ) (r : Fin a) (l : Fin n) :
    v (ix2 r l) ≤ multiReduction .maximumf [1] ⟨1, ![a]⟩ v 0xFF800000#32 h hφ hacc (ix1 r) := by
  rw [multiReduction_maximumf_eq_fold]
  exact (Finset.le_fold_max _).mpr (Or.inr ⟨ix2 r l, Finset.mem_filter.mpr ⟨Finset.mem_univ _, (drop_row h _ r).mpr rfl⟩, le_rfl⟩)

/-- So a row's maximum is its largest entry. -/
theorem rowMax_eq (v : FVec Ideal ⟨2, ![a, n]⟩ .f32) (h : (⟨2, ![a, n]⟩ : Shape).Reduces [1] ⟨1, ![a]⟩) (hφ : FKind.Formats .f32)
    (hacc : (0xFF800000#32 : BitVec 32) = FKind.maximumf.neutral .f32 hφ) (r : Fin a) (l : Fin n) (hl : ∀ l', v (ix2 r l') ≤ v (ix2 r l)) :
    multiReduction .maximumf [1] ⟨1, ![a]⟩ v 0xFF800000#32 h hφ hacc (ix1 r) = v (ix2 r l) :=
  le_antisymm (rowMax_le v h hφ hacc r _ hl) (le_rowMax v h hφ hacc r l)

/-- A row's minimum of signed words, started from the largest word, is its least entry. -/
theorem rowMin_eq (v : IVec ⟨2, ![a, n]⟩ 32) (h : (⟨2, ![a, n]⟩ : Shape).Reduces [1] ⟨1, ![a]⟩)
    (hacc : (2147483647#32 : BitVec 32) = IKind.minsi.neutral) (r : Fin a) (l : Fin n) (hl : ∀ l', (v (ix2 r l)).toInt ≤ (v (ix2 r l')).toInt) :
    multiReductionI .minsi [1] ⟨1, ![a]⟩ v 2147483647#32 h hacc (ix1 r) = v (ix2 r l) := by
  rw [multiReductionI_eq_fold]
  have key : ∀ c : BitVec 32, c.toInt ≤ ((Finset.univ.filter fun i => h.drop i = ix1 r).fold IKind.minsi.op 2147483647#32 v).toInt
      ↔ c.toInt ≤ (2147483647#32 : BitVec 32).toInt ∧ ∀ i ∈ Finset.univ.filter (fun i => h.drop i = ix1 r), c.toInt ≤ (v i).toInt := fun c =>
    Finset.fold_op_rel_iff_and (r := fun x y : BitVec 32 => x.toInt ≤ y.toInt) (fun {x y z} => by
      show x.toInt ≤ (IntOp.minsi y z).toInt ↔ _
      rw [SortNet.toInt_minsi, le_min_iff])
  refine BitVec.eq_of_toInt_eq (le_antisymm ?_ ?_)
  · exact ((key _).mp le_rfl).2 _ (Finset.mem_filter.mpr ⟨Finset.mem_univ _, (drop_row h _ r).mpr rfl⟩)
  · refine (key _).mpr ⟨?_, fun i hi => ?_⟩
    · have := (v (ix2 r l)).toInt_lt
      show _ ≤ (2147483647 : ℤ)
      omega
    · have h0 := (drop_row h i r).mp (Finset.mem_filter.mp hi).2
      rw [eq_ix2 i, h0]; exact hl (i 1)

/-- A lower bound of a row's signed words bounds their minimum. -/
theorem le_rowMin (v : IVec ⟨2, ![a, n]⟩ 32) (h : (⟨2, ![a, n]⟩ : Shape).Reduces [1] ⟨1, ![a]⟩)
    (hacc : (2147483647#32 : BitVec 32) = IKind.minsi.neutral) (r : Fin a) (B : BitVec 32) (hB : ∀ l : Fin n, B.toInt ≤ (v (ix2 r l)).toInt) :
    B.toInt ≤ (multiReductionI .minsi [1] ⟨1, ![a]⟩ v 2147483647#32 h hacc (ix1 r)).toInt := by
  rw [multiReductionI_eq_fold]
  refine (Finset.fold_op_rel_iff_and (r := fun x y : BitVec 32 => x.toInt ≤ y.toInt) (fun {x y z} => by
    show x.toInt ≤ (IntOp.minsi y z).toInt ↔ _
    rw [SortNet.toInt_minsi, le_min_iff])).mpr ⟨?_, fun i hi => ?_⟩
  · have := B.toInt_lt
    show _ ≤ (2147483647 : ℤ)
    omega
  · have h0 := (drop_row h i r).mp (Finset.mem_filter.mp hi).2
    rw [eq_ix2 i, h0]; exact hB (i 1)

/-- A column broadcast along the rows reads its row's entry. -/
theorem broadcast_row {α : Type} (x : (⟨2, ![a, 1]⟩ : Shape).Idx → α) (h : (⟨2, ![a, 1]⟩ : Shape).Broadcasts ⟨2, ![a, n]⟩) (r : Fin a) (l : Fin n) :
    broadcastTo ⟨2, ![a, n]⟩ x h (ix2 r l) = x (ix2 r 0) :=
  broadcastTo_apply x h _ _ (fun d => match d with
    | ⟨0, _⟩ => by
      show r.val = if a = 1 then 0 else r.val
      split
      · have := r.isLt; omega
      · rfl
    | ⟨1, _⟩ => by show 0 = if (1 : ℕ) = 1 then 0 else _; rw [if_pos rfl])

end Cert.Rows

end
-- ==== Proof.ScanLane.lean ====
/- One lane of the scan: after all chunks it holds the first chunk of largest score, with that chunk's clamped logit and
   noise. -/
module

public import proofs.«01_k».proof.Proof.ScanBody
public import proofs.«01_k».proof.Proof.First
public import proofs.«01_k».proof.Proof.Rows
public import Idealize.ShloMosaic.Lib.Pipeline.Value

@[expose] public section

noncomputable section

namespace Cert.KernelIdeal.Scan

open Cert Cert.KernelIdeal Cert.KernelIdeal.Gen Idealize.ShloMosaic Idealize.ShloMosaic.TcCoe Idealize.ShloMosaic.ValueIdx

/-- The largest value a logit is let have. -/
abbrev cap : EReal := Ideal.ofBits .f32 0x42200000#32

/-- Row `r` of a block of logits and of a block of the table: clamped logits `c` and noise `q`, by column of the block. -/
structure Reads (x g : Vec Ideal S64x31232 .f32) (r : Fin 64) (c : ℕ → EReal) (q : ℕ → ℝ) : Prop where
  logit : ∀ p : Fin 31232, min (x (ix2 r p)) cap = c p.val
  noise : ∀ p : Fin 31232, g (ix2 r p) = ((q p.val : ℝ) : EReal)

/-- An entry of chunk `k` is the block's entry at column `512 k` plus its lane. -/
theorem chunk_apply (x : Vec Ideal S64x31232 .f32) (k : Fin 61) (r : Fin 64) (l : Fin 512) (p : Fin 31232) (hp : p.val = 512 * k.val + l.val) :
    (View.ld x (chunk k) : FVec Ideal S64x512 .f32) (ix2 r l) = x (ix2 r p) := by
  show x ((chunk k).idx (ix2 r l)) = _
  refine congrArg x (funext fun d => Fin.ext ?_)
  match d with
  | ⟨0, _⟩ => show 0 + 1 * r.val = r.val; omega
  | ⟨1, _⟩ => show 512 * k.val + 1 * l.val = p.val; omega

variable {x g : Vec Ideal S64x31232 .f32} {r : Fin 64} {c : ℕ → EReal} {q : ℕ → ℝ}

theorem clamp_apply (h : Reads x g r c q) (k : Fin 61) (l : Fin 512) : clamp x k (ix2 r l) = c (512 * k.val + l.val) := by
  have hk := k.isLt
  have hl := l.isLt
  have e := chunk_apply x k r l ⟨512 * k.val + l.val, by omega⟩ rfl
  rw [← h.logit ⟨512 * k.val + l.val, by omega⟩, ← e]
  rfl

theorem noise_apply (h : Reads x g r c q) (k : Fin 61) (l : Fin 512) : noise g k (ix2 r l) = ((q (512 * k.val + l.val) : ℝ) : EReal) := by
  have hk := k.isLt
  have hl := l.isLt
  rw [← h.noise ⟨512 * k.val + l.val, by omega⟩, ← chunk_apply g k r l ⟨512 * k.val + l.val, by omega⟩ rfl]
  exact congrFun (shapeCast_self _ _) _

theorem score_apply (h : Reads x g r c q) (k : Fin 61) (l : Fin 512) : score x g k (ix2 r l) = plain c q (512 * k.val + l.val) := by
  show clamp x k (ix2 r l) + noise g k (ix2 r l) = _
  rw [clamp_apply h, noise_apply h]
  rfl

theorem bottom_apply (j : S64x512.Idx) : bottom (F := Ideal) j = (⊥ : EReal) := Rows.ofBits_bot

/-- What a lane holds after `n` chunks: nothing yet, every score being minus infinity, or the first chunk of largest score. -/
structure Lane (c : ℕ → EReal) (q : ℕ → ℝ) (l n : ℕ) (best logit noise : EReal) (chunk : BitVec 32) : Prop where
  le : ∀ k < n, plain c q (512 * k + l) ≤ best
  here : (best = ⊥ ∧ logit = ⊥ ∧ chunk = 0#32) ∨
    ∃ k < n, best = plain c q (512 * k + l) ∧ best ≠ ⊥ ∧ logit = c (512 * k + l) ∧ noise = ((q (512 * k + l) : ℝ) : EReal) ∧
      chunk = BitVec.ofNat 32 k ∧ ∀ k' < k, plain c q (512 * k' + l) < best

/-- The walk keeps it. -/
theorem lane (h : Reads x g r c q) (l : Fin 512) : ∀ (n : ℕ) (hn : n ≤ 61),
    Lane c q l.val n (bestScore x g n hn (ix2 r l)) (bestLogit x g n hn (ix2 r l)) (bestNoise x g n hn (ix2 r l)) (bestChunk x g n hn (ix2 r l)) := by
  intro n
  induction n with
  | zero =>
    intro hn
    exact ⟨fun k hk => absurd hk (Nat.not_lt_zero k), Or.inl ⟨bottom_apply _, bottom_apply _, rfl⟩⟩
  | succ n ih =>
    intro hn
    have ih := ih (by omega)
    have hs := score_apply h ⟨n, hn⟩ l
    have hb : beats x g n hn (ix2 r l) = BitVec.ofBool (decide (bestScore x g n (by omega) (ix2 r l) < score x g ⟨n, hn⟩ (ix2 r l))) := rfl
    rw [hs] at hb
    have e1 : bestScore x g (n + 1) hn (ix2 r l) = Scalar.select (beats x g n hn (ix2 r l)) (score x g ⟨n, hn⟩ (ix2 r l)) (bestScore x g n (by omega) (ix2 r l)) := rfl
    have e2 : bestLogit x g (n + 1) hn (ix2 r l) = Scalar.select (beats x g n hn (ix2 r l)) (clamp x ⟨n, hn⟩ (ix2 r l)) (bestLogit x g n (by omega) (ix2 r l)) := rfl
    have e3 : bestNoise x g (n + 1) hn (ix2 r l) = Scalar.select (beats x g n hn (ix2 r l)) (noise g ⟨n, hn⟩ (ix2 r l)) (bestNoise x g n (by omega) (ix2 r l)) := rfl
    have e4 : bestChunk x g (n + 1) hn (ix2 r l) = Scalar.select (beats x g n hn (ix2 r l)) (BitVec.ofNat 32 n) (bestChunk x g n (by omega) (ix2 r l)) := rfl
    rw [e1, e2, e3, e4, hb, hs, clamp_apply h, noise_apply h]
    by_cases hlt : bestScore x g n (by omega) (ix2 r l) < plain c q (512 * n + l.val)
    · rw [decide_eq_true hlt]
      refine ⟨fun k hk => ?_, Or.inr ⟨n, Nat.lt_succ_self n, rfl, ne_bot_of_gt hlt, rfl, rfl, rfl, fun k hk => (ih.le k hk).trans_lt hlt⟩⟩
      rcases Nat.lt_succ_iff_lt_or_eq.mp hk with hk | rfl
      · exact ((ih.le k hk).trans_lt hlt).le
      · exact le_rfl
    · rw [decide_eq_false hlt]
      refine ⟨fun k hk => ?_, ?_⟩
      · rcases Nat.lt_succ_iff_lt_or_eq.mp hk with hk | rfl
        · exact ih.le k hk
        · exact not_lt.mp hlt
      · rcases ih.here with h0 | ⟨k, hk, h0⟩
        · exact Or.inl h0
        · exact Or.inr ⟨k, by omega, h0⟩

/-- After all chunks: the first chunk of largest score, its clamped logit, and its noise unless the logit is minus infinity. -/
theorem lane_end (h : Reads x g r c q) (l : Fin 512) : ∃ k < 61,
    bestScore x g 61 le_rfl (ix2 r l) = plain c q (512 * k + l.val) ∧ bestLogit x g 61 le_rfl (ix2 r l) = c (512 * k + l.val) ∧
    (bestNoise x g 61 le_rfl (ix2 r l) = ((q (512 * k + l.val) : ℝ) : EReal) ∨ c (512 * k + l.val) = ⊥) ∧
    bestChunk x g 61 le_rfl (ix2 r l) = BitVec.ofNat 32 k ∧
    (∀ k' < 61, plain c q (512 * k' + l.val) ≤ plain c q (512 * k + l.val)) ∧
    ∀ k' < k, plain c q (512 * k' + l.val) < plain c q (512 * k + l.val) := by
  have hl := lane h l 61 le_rfl
  rcases hl.here with ⟨h1, h2, h3⟩ | ⟨k, hk, h1, h2, h3, h4, h5, h6⟩
  · have h0 : plain c q (512 * 0 + l.val) = ⊥ := le_bot_iff.mp (h1 ▸ hl.le 0 (by omega))
    have hc := (plain_eq_bot_iff c q _).mp h0
    refine ⟨0, by omega, h1.trans h0.symm, h2.trans hc.symm, Or.inr hc, h3, fun k' hk' => ?_, fun k' hk' => absurd hk' (Nat.not_lt_zero k')⟩
    rw [h0, ← h1]; exact hl.le k' hk'
  · exact ⟨k, hk, h1, h3, Or.inl h4, h5, fun k' hk' => h1 ▸ hl.le k' hk', fun k' hk' => h1 ▸ h6 k' hk'⟩

/-- The largest clamped logit of a lane over the first `n` chunks. -/
theorem maxLogit_le (h : Reads x g r c q) (l : Fin 512) : ∀ (n : ℕ) (hn : n ≤ 61), maxLogit x n hn (ix2 r l) ≤ cap := by
  intro n
  induction n with
  | zero => intro hn; rw [show maxLogit x 0 hn (ix2 r l) = ⊥ from bottom_apply _]; exact bot_le
  | succ n ih => exact fun hn => max_le (ih (by omega)) (min_le_right _ _)

/-- No clamped logit of the lane exceeds it. -/
theorem le_maxLogit (h : Reads x g r c q) (l : Fin 512) : ∀ (n : ℕ) (hn : n ≤ 61), ∀ k < n, c (512 * k + l.val) ≤ maxLogit x n hn (ix2 r l) := by
  intro n
  induction n with
  | zero => exact fun _ k hk => absurd hk (Nat.not_lt_zero k)
  | succ n ih =>
    intro hn k hk
    rw [show maxLogit x (n + 1) hn (ix2 r l) = max (maxLogit x n (by omega) (ix2 r l)) (clamp x ⟨n, hn⟩ (ix2 r l)) from rfl, clamp_apply h]
    rcases Nat.lt_succ_iff_lt_or_eq.mp hk with hk | rfl
    · exact le_max_of_le_left (ih (by omega) k hk)
    · exact le_max_right _ _

end Cert.KernelIdeal.Scan

end
-- ==== Proof.ScanBlock.lean ====
/- One block of the scan: what it stores for a row is the block's first column of largest score, with that column's
   clamped logit and noise, and a bound of the block's clamped logits. -/
module

public import proofs.«01_k».proof.Proof.ScanLane

@[expose] public section

noncomputable section

namespace Cert.KernelIdeal.Scan

open Cert Cert.KernelIdeal Cert.KernelIdeal.Gen Idealize.ShloMosaic Idealize.ShloMosaic.TcCoe Idealize.ShloMosaic.ValueIdx

variable {x g : Vec Ideal S64x31232 .f32} {r : Fin 64} {c : ℕ → EReal} {q : ℕ → ℝ}

/-- A small number's word, read signed, is the number. -/
theorem toInt_ofNat (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

/-- A lane's column in the table. -/
theorem column_apply (i : grid1.Coords) (l : Fin 512) (k : ℕ) (hk : bestChunk x g 61 le_rfl (ix2 r l) = BitVec.ofNat 32 k) :
    column i x g (ix2 r l) = BitVec.ofNat 32 (31232 * (i 0).val + (512 * k + l.val)) := by
  show (BitVec.ofNat 32 (i 0).val * BitVec.ofNat 32 31232 + bestChunk x g 61 le_rfl (ix2 r l) * BitVec.ofNat 32 512)
    + iota .tc S64x512 32 [1] iota_S64x512_d1_w32 (ix2 r l) = _
  rw [hk, iota_single_apply, ← BitVec.ofNat_mul, ← BitVec.ofNat_mul, ← BitVec.ofNat_add, ← BitVec.ofNat_add]
  refine congrArg (BitVec.ofNat 32) ?_
  show (i 0).val * 31232 + k * 512 + l.val = _
  omega

/-- The row's largest entry, kept as a column. -/
theorem rowMax_apply (v : FVec Ideal S64x512 .f32) (r : Fin 64) (l : Fin 512) (hl : ∀ l' : Fin 512, v (ix2 r l') ≤ v (ix2 r l)) :
    rowMax v (ix2 r 0) = v (ix2 r l) :=
  (shapeCast_a_a1_apply _ _ r 0).trans (Rows.rowMax_eq v _ _ _ r l hl)

/-- The candidate of a block: its first column of largest score, that column's clamped logit and noise. -/
theorem candidate (h : Reads x g r c q) (i : grid1.Coords) : ∃ p, First (plain c q) 31232 p ∧
    pickColumn i x g (ix2 r 0) = BitVec.ofNat 32 (31232 * (i 0).val + p) ∧
    rowMax (select (chosen i x g) (bestLogit x g 61 le_rfl) bottom) (ix2 r 0) = c p ∧
    (rowMax (select (chosen i x g) (bestNoise x g 61 le_rfl) bottom) (ix2 r 0) = ((q p : ℝ) : EReal) ∨ c p = ⊥) := by
  have hi : (i 0).val < 32 := (i 0).isLt
  choose k hk hs hlog hnoi hchunk hle hbefore using lane_end h
  -- each lane's column of the block, and its score
  obtain ⟨P, hP⟩ : ∃ P : Fin 512 → ℕ, ∀ l, P l = 512 * k l + l.val := ⟨fun l => 512 * k l + l.val, fun _ => rfl⟩
  have hPlt : ∀ l, P l < 31232 := fun l => by have := hk l; have := l.isLt; rw [hP]; omega
  have hinj : ∀ l l', P l = P l' → l = l' := fun l l' e => by
    have := l.isLt; have := l'.isLt; rw [hP, hP] at e; exact Fin.ext (by omega)
  simp only [← hP] at hs hlog hnoi hle hbefore
  have hcol : ∀ l, column i x g (ix2 r l) = BitVec.ofNat 32 (31232 * (i 0).val + P l) := fun l => by
    rw [column_apply i l (k l) (hchunk l), hP]
  have hint : ∀ l, (column i x g (ix2 r l)).toInt = ((31232 * (i 0).val + P l : ℕ) : ℤ) := fun l => by
    have := hPlt l
    rw [hcol, toInt_ofNat _ (by omega)]
  -- the lane of largest score and, among those, of least column
  obtain ⟨l₀, -, hl₀⟩ := Finset.exists_max_image Finset.univ (fun l => plain c q (P l)) ⟨(0 : Fin 512), Finset.mem_univ _⟩
  obtain ⟨l₁, hl₁, hmin⟩ := Finset.exists_min_image (Finset.univ.filter fun l => plain c q (P l) = plain c q (P l₀)) P
    ⟨l₀, Finset.mem_filter.mpr ⟨Finset.mem_univ _, rfl⟩⟩
  have htop : ∀ l, plain c q (P l) ≤ plain c q (P l₁) := fun l => (Finset.mem_filter.mp hl₁).2 ▸ hl₀ l (Finset.mem_univ _)
  have hleast : ∀ l, plain c q (P l) = plain c q (P l₁) → P l₁ ≤ P l := fun l e =>
    hmin l (Finset.mem_filter.mpr ⟨Finset.mem_univ _, e.trans (Finset.mem_filter.mp hl₁).2⟩)
  have hbest : rowMax (bestScore x g 61 le_rfl) (ix2 r 0) = plain c q (P l₁) :=
    (rowMax_apply _ r l₁ fun l => by rw [hs, hs]; exact htop l).trans (hs l₁)
  -- the column picked
  have hpick : pickColumn i x g (ix2 r 0) = BitVec.ofNat 32 (31232 * (i 0).val + P l₁) := by
    have hsel : ∀ l : Fin 512, select (cmpf .oeq (bestScore x g 61 le_rfl) (broadcastTo S64x512 (rowMax (bestScore x g 61 le_rfl)) broadcasts_S64x1_S64x512))
        (column i x g) (broadcast S64x512 2147483647#32) (ix2 r l)
        = if plain c q (P l) = plain c q (P l₁) then column i x g (ix2 r l) else 2147483647#32 := fun l => by
      show Scalar.select (BitVec.ofBool (decide (bestScore x g 61 le_rfl (ix2 r l) = broadcastTo S64x512 (rowMax (bestScore x g 61 le_rfl)) broadcasts_S64x1_S64x512 (ix2 r l))))
        (column i x g (ix2 r l)) 2147483647#32 = _
      rw [Rows.broadcast_row, hbest, hs]
      by_cases e : plain c q (P l) = plain c q (P l₁)
      · rw [decide_eq_true e, if_pos e]; rfl
      · rw [decide_eq_false e, if_neg e]; rfl
    have hrow := Rows.rowMin_eq (select (cmpf .oeq (bestScore x g 61 le_rfl) (broadcastTo S64x512 (rowMax (bestScore x g 61 le_rfl)) broadcasts_S64x1_S64x512))
        (column i x g) (broadcast S64x512 2147483647#32)) reduces_S64x512_S64 rfl r l₁ fun l => by
      have := hPlt l₁
      rw [hsel, hsel, if_pos rfl, hint]
      split
      · rename_i e
        have := hleast l e
        rw [hint]; omega
      · show _ ≤ (2147483647 : ℤ); omega
    refine (shapeCast_a_a1_apply _ _ r 0).trans (hrow.trans ?_)
    rw [hsel, if_pos rfl, hcol]
  -- the lane picked
  have hchosen : ∀ (v : FVec Ideal S64x512 .f32) (l : Fin 512), select (chosen i x g) v bottom (ix2 r l) = if l = l₁ then v (ix2 r l) else ⊥ := fun v l => by
    show Scalar.select (BitVec.ofBool (decide (column i x g (ix2 r l) = broadcastTo S64x512 (pickColumn i x g) broadcasts_S64x1_S64x512 (ix2 r l))))
      (v (ix2 r l)) (bottom (F := Ideal) (ix2 r l)) = _
    rw [Rows.broadcast_row, hpick, bottom_apply]
    by_cases e : l = l₁
    · rw [decide_eq_true (by rw [e, hcol]), if_pos e]; rfl
    · rw [decide_eq_false (fun e' => e (hinj _ _ (by
        have h1 := hint l
        have := hPlt l₁
        rw [e', toInt_ofNat _ (by omega)] at h1
        omega))), if_neg e]; rfl
  have hval : ∀ v : FVec Ideal S64x512 .f32, rowMax (select (chosen i x g) v bottom) (ix2 r 0) = v (ix2 r l₁) := fun v => by
    refine (rowMax_apply _ r l₁ fun l => ?_).trans ?_
    · rw [hchosen, hchosen, if_pos rfl]
      split
      · rename_i e; rw [e]
      · exact bot_le
    · rw [hchosen, if_pos rfl]
  refine ⟨P l₁, First.of_least (hPlt l₁) (fun n hn => ?_) (fun n hn e => ?_), hpick, (hval _).trans (hlog l₁), ?_⟩
  · have h2 := hle ⟨n % 512, Nat.mod_lt _ (by omega)⟩ (n / 512) (by omega)
    rw [show 512 * (n / 512) + n % 512 = n from by omega] at h2
    exact h2.trans (htop _)
  · obtain ⟨l, hl⟩ : ∃ l : Fin 512, l.val = n % 512 := ⟨⟨n % 512, Nat.mod_lt _ (by omega)⟩, rfl⟩
    have h2 := hle l (n / 512) (by omega)
    rw [show 512 * (n / 512) + l.val = n from by omega] at h2
    have h3 := hleast l (le_antisymm (htop l) (e ▸ h2))
    refine h3.trans ?_
    by_contra hlt
    have h4 := hbefore l (n / 512) (by have := hP l; omega)
    rw [show 512 * (n / 512) + l.val = n from by omega, e] at h4
    exact absurd (htop l) (not_le.mpr h4)
  · rw [hval]; exact hnoi l₁

/-- The stored bound: at least every clamped logit of the block's row, at most the cap. -/
theorem bound (h : Reads x g r c q) : (∀ p < 31232, c p ≤ rowMax (maxLogit x 61 le_rfl) (ix2 r 0)) ∧ rowMax (maxLogit x 61 le_rfl) (ix2 r 0) ≤ cap := by
  have e : rowMax (maxLogit x 61 le_rfl) (ix2 r 0) = multiReduction .maximumf [1] S64 (maxLogit x 61 le_rfl) 0xFF800000#32 reduces_S64x512_S64 (.inl rfl) rfl (ix1 r) :=
    shapeCast_a_a1_apply _ _ r 0
  rw [e]
  refine ⟨fun p hp => ?_, Rows.rowMax_le _ _ _ _ r _ fun l => maxLogit_le h l 61 le_rfl⟩
  have h1 := le_maxLogit h ⟨p % 512, Nat.mod_lt _ (by omega)⟩ 61 le_rfl (p / 512) (by omega)
  rw [show 512 * (p / 512) + p % 512 = p from by omega] at h1
  exact h1.trans (Rows.le_rowMax _ _ _ _ r _)

/-- A column stored as a `[1, 64, 1]` block. -/
theorem stored_row {α : Type} (v : S64x1.Idx → α) (y : S1x64x1.Idx) : shapeCast S1x64x1 v shapeCasts_S64x1_S1x64x1 y = v (ix2 (y 1) 0) := by
  refine shapeCast_apply v _ y _ ?_
  rw [Shape.rowMajor_val_two, Shape.rowMajor_val_three]
  have h0 : (y 0).val < 1 := (y 0).isLt
  have h2 : (y 2).val < 1 := (y 2).isLt
  show (y 1).val * 1 + 0 = ((y 0).val * 64 + (y 1).val) * 1 + (y 2).val
  omega

end Cert.KernelIdeal.Scan

end
-- ==== Proof.ScanArrays.lean ====
/- The arrays the scan leaves: at block `b` and row `r`, what one block's body stores for the columns from `31232 b`. -/
module

public import proofs.«01_k».proof.Proof.ScanBlock
public import proofs.«01_k».proof.Proof.ScanRegion
public import Idealize.ShloMosaic.Lib.Pipeline.ValueKit

@[expose] public section

set_option maxRecDepth 16384

noncomputable section

namespace Cert.KernelIdeal.Scan

open Cert Cert.KernelIdeal Cert.KernelIdeal.Gen Cert.KernelIdeal.Run Idealize.ShloMosaic.TcCoe Idealize.ShloMosaic.ValueIdx
open Idealize.ShloMosaic hiding ix1 ix2

/-- Block `b` of a table, the columns from `31232 b` (a column past the table's end, which no block of the grid has, is
    read as the last one). -/
def block (A : Vec Ideal S64x1000000 .f32) (b : ℕ) : Vec Ideal S64x31232 .f32 :=
  fun y => A (ix2 (y 0) ⟨min (b * 31232 + (y 1).val) 999999, by omega⟩)

/-- Grid point `b`. -/
def point (b : ℕ) : grid1.Coords := fun a => match a with
  | ⟨0, _⟩ => (⟨b % 32, by omega⟩ : Fin 32)

theorem point_coords (t : Fin grid1.N) : point (grid1.coords t 0).val = grid1.coords t := by
  have h : (grid1.coords t 0).val < 32 := (grid1.coords t 0).isLt
  funext a
  match a with
  | ⟨0, _⟩ => exact Fin.ext (Nat.mod_eq_of_lt h)

theorem index1_0 : ∀ t : Fin cfg1.N, win1_0.index t = ![0, (grid1.coords t 0).val] :=
  (by decide +kernel : ∀ t : Fin grid1.N, win1_0.index t = ![0, (grid1.coords t 0).val])
theorem index1_1 : ∀ t : Fin cfg1.N, win1_1.index t = ![0, (grid1.coords t 0).val] :=
  (by decide +kernel : ∀ t : Fin grid1.N, win1_1.index t = ![0, (grid1.coords t 0).val])
theorem index1_2 : ∀ t : Fin cfg1.N, win1_2.index t = ![(grid1.coords t 0).val, 0, 0] :=
  (by decide +kernel : ∀ t : Fin grid1.N, win1_2.index t = ![(grid1.coords t 0).val, 0, 0])
theorem index1_3 : ∀ t : Fin cfg1.N, win1_3.index t = ![(grid1.coords t 0).val, 0, 0] :=
  (by decide +kernel : ∀ t : Fin grid1.N, win1_3.index t = ![(grid1.coords t 0).val, 0, 0])
theorem index1_4 : ∀ t : Fin cfg1.N, win1_4.index t = ![(grid1.coords t 0).val, 0, 0] :=
  (by decide +kernel : ∀ t : Fin grid1.N, win1_4.index t = ![(grid1.coords t 0).val, 0, 0])
theorem index1_5 : ∀ t : Fin cfg1.N, win1_5.index t = ![(grid1.coords t 0).val, 0, 0] :=
  (by decide +kernel : ∀ t : Fin grid1.N, win1_5.index t = ![(grid1.coords t 0).val, 0, 0])

variable (V : (c : Dev nD) → (b : Ref sig .tc) → Buf (Elt Ideal) ((c : Thread nD τ).loc b)) (c : Dev nD)

/-- The block of logits the body reads at a grid point. -/
theorem X1_0_eq (t : Fin cfg1.N) : X1_0 V c t = block (V c main_arg0) (grid1.coords t 0).val := by
  funext y
  have h : (grid1.coords t 0).val < 32 := (grid1.coords t 0).isLt
  have h1 : (y 1).val < 31232 := (y 1).isLt
  unfold X1_0 Pipeline.Window.fill iblk1
  rw [dif_pos (moved1_0 t y)]
  blk_simp [index1_0]
  unfold block
  refine congrArg (V c main_arg0) ?_
  blk_ext [index1_0]

/-- The block of the table the body reads at a grid point. -/
theorem X1_1_eq (t : Fin cfg1.N) : X1_1 V c t = block (V c main_v0) (grid1.coords t 0).val := by
  funext y
  have h : (grid1.coords t 0).val < 32 := (grid1.coords t 0).isLt
  have h1 : (y 1).val < 31232 := (y 1).isLt
  unfold X1_1 Pipeline.Window.fill iblk1
  rw [dif_pos (moved1_1 t y)]
  blk_simp [index1_1]
  unfold block
  refine congrArg (V c main_v0) ?_
  blk_ext [index1_1]

/-- The bounds. -/
theorem array2 : (dat1 V c).arrAt 2 cfg1.N = fun j : S32x64x1.Idx => rowMax (maxLogit (block (V c main_arg0) (j 0).val) 61 le_rfl) (ix2 (j 1) 0) := by
  refine (dat1 V c).arrAt_eq_of_covers 2 _ (by decide +kernel) fun t hf y => ?_
  blk_simp [index1_2]
  rw [after1_2, X1_0_eq]
  unfold out1_2
  frame_out
  refine (stored_row _ y).trans (congrArg (fun r => rowMax (maxLogit (block (V c main_arg0) (grid1.coords t 0).val) 61 le_rfl) (ix2 r 0)) (Fin.ext ?_))
  blk_simp [index1_2]

/-- The candidates' clamped logits. -/
theorem array3 : (dat1 V c).arrAt 3 cfg1.N = fun j : S32x64x1.Idx => rowMax (select (chosen (point (j 0).val) (block (V c main_arg0) (j 0).val) (block (V c main_v0) (j 0).val)) (bestLogit (block (V c main_arg0) (j 0).val) (block (V c main_v0) (j 0).val) 61 le_rfl) bottom) (ix2 (j 1) 0) := by
  refine (dat1 V c).arrAt_eq_of_covers 3 _ (by decide +kernel) fun t hf y => ?_
  blk_simp [index1_3]
  rw [after1_3, X1_0_eq, X1_1_eq]
  unfold out1_3
  frame_out
  rw [point_coords]
  refine (stored_row _ y).trans (congrArg (fun r => rowMax (select (chosen (grid1.coords t) (block (V c main_arg0) (grid1.coords t 0).val) (block (V c main_v0) (grid1.coords t 0).val)) (bestLogit (block (V c main_arg0) (grid1.coords t 0).val) (block (V c main_v0) (grid1.coords t 0).val) 61 le_rfl) bottom) (ix2 r 0)) (Fin.ext ?_))
  blk_simp [index1_3]

/-- The candidates' noise. -/
theorem array4 : (dat1 V c).arrAt 4 cfg1.N = fun j : S32x64x1.Idx => rowMax (select (chosen (point (j 0).val) (block (V c main_arg0) (j 0).val) (block (V c main_v0) (j 0).val)) (bestNoise (block (V c main_arg0) (j 0).val) (block (V c main_v0) (j 0).val) 61 le_rfl) bottom) (ix2 (j 1) 0) := by
  refine (dat1 V c).arrAt_eq_of_covers 4 _ (by decide +kernel) fun t hf y => ?_
  blk_simp [index1_4]
  rw [after1_4, X1_0_eq, X1_1_eq]
  unfold out1_4
  frame_out
  rw [point_coords]
  refine (stored_row _ y).trans (congrArg (fun r => rowMax (select (chosen (grid1.coords t) (block (V c main_arg0) (grid1.coords t 0).val) (block (V c main_v0) (grid1.coords t 0).val)) (bestNoise (block (V c main_arg0) (grid1.coords t 0).val) (block (V c main_v0) (grid1.coords t 0).val) 61 le_rfl) bottom) (ix2 r 0)) (Fin.ext ?_))
  blk_simp [index1_4]

/-- The candidates' columns. -/
theorem array5 : (dat1 V c).arrAt 5 cfg1.N = fun j : S32x64x1.Idx => pickColumn (point (j 0).val) (block (V c main_arg0) (j 0).val) (block (V c main_v0) (j 0).val) (ix2 (j 1) 0) := by
  refine (dat1 V c).arrAt_eq_of_covers 5 _ (by decide +kernel) fun t hf y => ?_
  blk_simp [index1_5]
  rw [after1_5, X1_0_eq, X1_1_eq]
  unfold out1_5
  frame_out
  rw [point_coords]
  refine (stored_row _ y).trans (congrArg (fun r => pickColumn (grid1.coords t) (block (V c main_arg0) (grid1.coords t 0).val) (block (V c main_v0) (grid1.coords t 0).val) (ix2 r 0)) (Fin.ext ?_))
  blk_simp [index1_5]

end Cert.KernelIdeal.Scan

end
-- ==== Proof.HostStretch.lean ====
/- The host operations between the scan and the pick: the scan's four results as rows of 32 blocks, and the last 576
   columns of the logits and of the table. -/
module

public import proofs.«01_k».proof.Proof.Gen.KernelIdeal.Launch
public import Idealize.ShloMosaic.Lib.ValueIdx
public import Idealize.ShloMosaic.Lib.ValueLayout
public import Idealize.ShloMosaic.Lib.Pipeline.Value
public import Idealize.ShloMosaic.Lib.StableHlo.Run

@[expose] public section

set_option maxRecDepth 16384

noncomputable section

namespace Cert.KernelIdeal.Host

open Cert Cert.KernelIdeal Cert.KernelIdeal.Gen Idealize.ShloMosaic.TcCoe Idealize.ShloMosaic.ValueIdx Idealize.ShloMosaic.StableHlo
open Idealize.ShloMosaic

/-- A column of results per block, laid out as a row of blocks. -/
theorem laid_apply {α : Type} (x : S32x64x1.Idx → α) (r : Fin 64) (b : Fin 32) :
    transpose S64x32 [1, 0] (shapeCast S32x64 x shapeCasts_S32x64x1_S32x64) transposes_S32x64_S64x32_1_0 (ix2 r b) = x (ix3 b r 0) := by
  refine (transpose_ix2_apply _ _ r b).trans (shapeCast_apply x _ _ _ ?_)
  rw [Shape.rowMajor_val_two, Shape.rowMajor_val_three]
  show (b.val * 64 + r.val) * 1 + 0 = b.val * 64 + r.val
  omega

/-- The last columns of a table. -/
theorem tail_apply {α : Type} (x : S64x1000000.Idx → α) (r : Fin 64) (l : Fin 576) :
    extractStridedSlice S64x576 ![0, 999424] x slices_S64x1000000_S64x576_0_999424 (ix2 r l) = x (ix2 r ⟨999424 + l.val, by omega⟩) :=
  extractStridedSlice_apply _ x _ _ _ fun d => match d with
    | ⟨0, _⟩ => by show r.val = 0 + r.val; omega
    | ⟨1, _⟩ => rfl

variable (W : Valuation τ sig (Elt Ideal)) (r : Fin 64)

theorem v3_apply (b : Fin 32) : (after hostOps2 W (Proc.devRef .tc main_v3) : S64x32.Idx → EReal) (ix2 r b)
    = (W (Proc.devRef .tc main_v1_0) : S32x64x1.Idx → EReal) (ix3 b r 0) := by
  refine Eq.trans (congrFun (?_ : after hostOps2 W (Proc.devRef .tc main_v3) = transpose S64x32 [1, 0] (shapeCast S32x64 (W (Proc.devRef .tc main_v1_0)) shapeCasts_S32x64x1_S32x64) transposes_S32x64_S64x32_1_0) _) (laid_apply _ r b)
  after_results
  rfl
theorem v5_apply (b : Fin 32) : (after hostOps2 W (Proc.devRef .tc main_v5) : S64x32.Idx → EReal) (ix2 r b)
    = (W (Proc.devRef .tc main_v1_1) : S32x64x1.Idx → EReal) (ix3 b r 0) := by
  refine Eq.trans (congrFun (?_ : after hostOps2 W (Proc.devRef .tc main_v5) = transpose S64x32 [1, 0] (shapeCast S32x64 (W (Proc.devRef .tc main_v1_1)) shapeCasts_S32x64x1_S32x64) transposes_S32x64_S64x32_1_0) _) (laid_apply _ r b)
  after_results
  rfl
theorem v7_apply (b : Fin 32) : (after hostOps2 W (Proc.devRef .tc main_v7) : S64x32.Idx → EReal) (ix2 r b)
    = (W (Proc.devRef .tc main_v1_2) : S32x64x1.Idx → EReal) (ix3 b r 0) := by
  refine Eq.trans (congrFun (?_ : after hostOps2 W (Proc.devRef .tc main_v7) = transpose S64x32 [1, 0] (shapeCast S32x64 (W (Proc.devRef .tc main_v1_2)) shapeCasts_S32x64x1_S32x64) transposes_S32x64_S64x32_1_0) _) (laid_apply _ r b)
  after_results
  rfl
theorem v9_apply (b : Fin 32) : (after hostOps2 W (Proc.devRef .tc main_v9) : S64x32.Idx → BitVec 32) (ix2 r b)
    = (W (Proc.devRef .tc main_v1_3) : S32x64x1.Idx → BitVec 32) (ix3 b r 0) := by
  refine Eq.trans (congrFun (?_ : after hostOps2 W (Proc.devRef .tc main_v9) = transpose S64x32 [1, 0] (shapeCast S32x64 (W (Proc.devRef .tc main_v1_3)) shapeCasts_S32x64x1_S32x64) transposes_S32x64_S64x32_1_0) _) (laid_apply _ r b)
  after_results
  rfl
theorem v10_apply (l : Fin 576) : (after hostOps2 W (Proc.devRef .tc main_v10) : S64x576.Idx → EReal) (ix2 r l)
    = (W (Proc.devRef .tc main_arg0) : S64x1000000.Idx → EReal) (ix2 r ⟨999424 + l.val, by omega⟩) := by
  refine Eq.trans (congrFun (?_ : after hostOps2 W (Proc.devRef .tc main_v10) = extractStridedSlice S64x576 ![0, 999424] (W (Proc.devRef .tc main_arg0)) slices_S64x1000000_S64x576_0_999424) _) (tail_apply _ r l)
  after_results
theorem v11_apply (l : Fin 576) : (after hostOps2 W (Proc.devRef .tc main_v11) : S64x576.Idx → EReal) (ix2 r l)
    = (W (Proc.devRef .tc main_v0) : S64x1000000.Idx → EReal) (ix2 r ⟨999424 + l.val, by omega⟩) := by
  refine Eq.trans (congrFun (?_ : after hostOps2 W (Proc.devRef .tc main_v11) = extractStridedSlice S64x576 ![0, 999424] (W (Proc.devRef .tc main_v0)) slices_S64x1000000_S64x576_0_999424) _) (tail_apply _ r l)
  after_results

end Cert.KernelIdeal.Host

end
-- ==== Proof.PickRow.lean ====
/- One row of the pick: of the 32 blocks' candidates and the 576 last columns it returns the first column of largest
   score in the whole row. -/
module

public import proofs.«01_k».proof.Proof.ScanBlock

@[expose] public section

noncomputable section

namespace Cert.KernelIdeal.Pick

open Cert Cert.KernelIdeal Cert.KernelIdeal.Gen Idealize.ShloMosaic Idealize.ShloMosaic.TcCoe Idealize.ShloMosaic.ValueIdx
open Cert.KernelIdeal.Scan (cap toInt_ofNat)

/-- The cap is 40. -/
theorem cap_ne_top : cap ≠ ⊤ := by
  simp only [cap, Ideal.ofBits, Ideal.ieee]
  simp
  rw [← EReal.coe_mul]
  exact EReal.coe_ne_top _

/-- What the pick is given for row `r`, whose clamped logits are `c` and whose noise is `q`: of each block a bound of its
    clamped logits and its candidate; and the last columns. -/
structure Given (x0 x1 x2 : Vec Ideal S64x32 .f32) (x3 : Vec Ideal S64x32 .i32) (x4 x5 : Vec Ideal S64x576 .f32) (r : Fin 64)
    (c : ℕ → EReal) (q : ℕ → ℝ) : Prop where
  bound : ∀ b : Fin 32, ∀ p < 31232, c (31232 * b.val + p) ≤ x0 (ix2 r b)
  capped : ∀ b : Fin 32, x0 (ix2 r b) ≤ cap
  cand : ∀ b : Fin 32, ∃ p, First (fun p => plain c q (31232 * b.val + p)) 31232 p ∧ x3 (ix2 r b) = BitVec.ofNat 32 (31232 * b.val + p) ∧
    x1 (ix2 r b) = c (31232 * b.val + p) ∧ (x2 (ix2 r b) = ((q (31232 * b.val + p) : ℝ) : EReal) ∨ c (31232 * b.val + p) = ⊥)
  tail : ∀ l : Fin 576, min (x4 (ix2 r l)) cap = c (999424 + l.val)
  tailNoise : ∀ l : Fin 576, x5 (ix2 r l) = ((q (999424 + l.val) : ℝ) : EReal)

variable {x0 x1 x2 : Vec Ideal S64x32 .f32} {x3 : Vec Ideal S64x32 .i32} {x4 x5 : Vec Ideal S64x576 .f32} {r : Fin 64}
variable {c : ℕ → EReal} {q : ℕ → ℝ}

/-- The clamped last columns. -/
theorem pay2_apply (j : S64x576.Idx) : k2_pay2 x4 j = min (x4 j) cap :=
  congrArg (fun v : S64x576.Idx → EReal => min (v j) cap) (shapeCast_self x4 shapeCasts_S64x576_S64x576)

/-- The bound taken off every score: the larger of two row maxima. -/
theorem pay4_apply : k2_pay4 x0 x4 (ix2 r 0) = max (multiReduction .maximumf [1] S64 x0 0xFF800000#32 reduces_S64x32_S64 (.inl rfl) rfl (ix1 r))
    (multiReduction .maximumf [1] S64 (k2_pay2 x4) 0xFF800000#32 reduces_S64x576_S64 (.inl rfl) rfl (ix1 r)) := by
  show max (shapeCast S64x1 (multiReduction .maximumf [1] S64 (shapeCast S64x32 x0 shapeCasts_S64x32_S64x32) 0xFF800000#32 reduces_S64x32_S64 (.inl rfl) rfl) shapeCasts_S64_S64x1 (ix2 r 0))
    (shapeCast S64x1 (multiReduction .maximumf [1] S64 (k2_pay2 x4) 0xFF800000#32 reduces_S64x576_S64 (.inl rfl) rfl) shapeCasts_S64_S64x1 (ix2 r 0)) = _
  rw [show shapeCast S64x32 x0 shapeCasts_S64x32_S64x32 = x0 from shapeCast_self x0 _]
  exact congrArg₂ max (shapeCast_a_a1_apply _ _ r 0) (shapeCast_a_a1_apply _ _ r 0)

/-- A candidate's score. -/
theorem pay5_apply (b : Fin 32) : k2_pay5 x0 x1 x2 x4 (ix2 r b) = (x1 (ix2 r b) - k2_pay4 x0 x4 (ix2 r 0)) + x2 (ix2 r b) := by
  show (shapeCast S64x32 x1 shapeCasts_S64x32_S64x32 (ix2 r b) - broadcastTo S64x32 (k2_pay4 x0 x4) broadcasts_S64x1_S64x32 (ix2 r b))
    + shapeCast S64x32 x2 shapeCasts_S64x32_S64x32 (ix2 r b) = _
  rw [Rows.broadcast_row, show shapeCast S64x32 x1 shapeCasts_S64x32_S64x32 = x1 from shapeCast_self x1 _,
    show shapeCast S64x32 x2 shapeCasts_S64x32_S64x32 = x2 from shapeCast_self x2 _]

/-- A last column's score. -/
theorem pay6_apply (l : Fin 576) : k2_pay6 x0 x4 x5 (ix2 r l) = (min (x4 (ix2 r l)) cap - k2_pay4 x0 x4 (ix2 r 0)) + x5 (ix2 r l) := by
  show (k2_pay2 x4 (ix2 r l) - broadcastTo S64x576 (k2_pay4 x0 x4) broadcasts_S64x1_S64x576 (ix2 r l))
    + shapeCast S64x576 x5 shapeCasts_S64x576_S64x576 (ix2 r l) = _
  rw [Rows.broadcast_row, pay2_apply, show shapeCast S64x576 x5 shapeCasts_S64x576_S64x576 = x5 from shapeCast_self x5 _]

/-- The largest score: the larger of two row maxima. -/
theorem pay7_apply : k2_pay7 x0 x1 x2 x4 x5 (ix2 r 0)
    = max (multiReduction .maximumf [1] S64 (k2_pay5 x0 x1 x2 x4) 0xFF800000#32 reduces_S64x32_S64 (.inl rfl) rfl (ix1 r))
      (multiReduction .maximumf [1] S64 (k2_pay6 x0 x4 x5) 0xFF800000#32 reduces_S64x576_S64 (.inl rfl) rfl (ix1 r)) :=
  congrArg₂ max (shapeCast_a_a1_apply _ _ r 0) (shapeCast_a_a1_apply _ _ r 0)

/-- The candidates' columns where the score is the largest. -/
def candCols (x0 x1 x2 : Vec Ideal S64x32 .f32) (x3 : Vec Ideal S64x32 .i32) (x4 x5 : Vec Ideal S64x576 .f32) : IVec S64x32 32 :=
  select (cmpf .oeq (k2_pay5 x0 x1 x2 x4) (broadcastTo S64x32 (k2_pay7 x0 x1 x2 x4 x5) broadcasts_S64x1_S64x32)) x3 (broadcast S64x32 2147483647#32)
/-- The last columns where the score is the largest. -/
def tailCols (x0 x1 x2 : Vec Ideal S64x32 .f32) (x4 x5 : Vec Ideal S64x576 .f32) : IVec S64x576 32 :=
  select (cmpf .oeq (k2_pay6 x0 x4 x5) (k2_pay9 x0 x1 x2 x4 x5)) k2_pay3 (broadcast S64x576 2147483647#32)

theorem candCols_apply (b : Fin 32) : candCols x0 x1 x2 x3 x4 x5 (ix2 r b)
    = if k2_pay5 x0 x1 x2 x4 (ix2 r b) = k2_pay7 x0 x1 x2 x4 x5 (ix2 r 0) then x3 (ix2 r b) else 2147483647#32 := by
  show Scalar.select (BitVec.ofBool (decide (k2_pay5 x0 x1 x2 x4 (ix2 r b) = broadcastTo S64x32 (k2_pay7 x0 x1 x2 x4 x5) broadcasts_S64x1_S64x32 (ix2 r b))))
    (x3 (ix2 r b)) 2147483647#32 = _
  rw [Rows.broadcast_row]
  by_cases e : k2_pay5 x0 x1 x2 x4 (ix2 r b) = k2_pay7 x0 x1 x2 x4 x5 (ix2 r 0)
  · rw [decide_eq_true e, if_pos e]; rfl
  · rw [decide_eq_false e, if_neg e]; rfl

theorem tailCols_apply (l : Fin 576) : tailCols x0 x1 x2 x4 x5 (ix2 r l)
    = if k2_pay6 x0 x4 x5 (ix2 r l) = k2_pay7 x0 x1 x2 x4 x5 (ix2 r 0) then BitVec.ofNat 32 (999424 + l.val) else 2147483647#32 := by
  have hi : k2_pay3 (ix2 r l) = BitVec.ofNat 32 (999424 + l.val) := by
    show iota .tc S64x576 32 [1] iota_S64x576_d1_w32 (ix2 r l) + BitVec.ofNat 32 999424 = _
    rw [iota_single_apply, ← BitVec.ofNat_add]
    exact congrArg (BitVec.ofNat 32) (Nat.add_comm _ _)
  show Scalar.select (BitVec.ofBool (decide (k2_pay6 x0 x4 x5 (ix2 r l) = broadcastTo S64x576 (k2_pay7 x0 x1 x2 x4 x5) broadcasts_S64x1_S64x576 (ix2 r l))))
    (k2_pay3 (ix2 r l)) 2147483647#32 = _
  rw [Rows.broadcast_row, hi]
  by_cases e : k2_pay6 x0 x4 x5 (ix2 r l) = k2_pay7 x0 x1 x2 x4 x5 (ix2 r 0)
  · rw [decide_eq_true e, if_pos e]; rfl
  · rw [decide_eq_false e, if_neg e]; rfl

/-- The stored column: the lesser of two row minima. -/
theorem pay1_apply : k2_pay1 k2_pay3 (k2_pay6 x0 x4 x5) (k2_pay8 x0 x1 x2 x3 x4 x5) (k2_pay9 x0 x1 x2 x4 x5) (ix2 r 0)
    = IntOp.minsi (multiReductionI .minsi [1] S64 (candCols x0 x1 x2 x3 x4 x5) 2147483647#32 reduces_S64x32_S64 rfl (ix1 r))
      (multiReductionI .minsi [1] S64 (tailCols x0 x1 x2 x4 x5) 2147483647#32 reduces_S64x576_S64 rfl (ix1 r)) := by
  have e : k2_pay8 x0 x1 x2 x3 x4 x5 = shapeCast S64x1 (multiReductionI .minsi [1] S64 (candCols x0 x1 x2 x3 x4 x5) 2147483647#32 reduces_S64x32_S64 rfl) shapeCasts_S64_S64x1 := by
    have e3 : ∀ y : IVec S64x32 32, y = x3 → shapeCast S64x1 (multiReductionI .minsi [1] S64 (select (cmpf .oeq (k2_pay5 x0 x1 x2 x4)
        (broadcastTo S64x32 (k2_pay7 x0 x1 x2 x4 x5) broadcasts_S64x1_S64x32)) y (broadcast S64x32 2147483647#32)) 2147483647#32 reduces_S64x32_S64 rfl) shapeCasts_S64_S64x1
        = shapeCast S64x1 (multiReductionI .minsi [1] S64 (candCols x0 x1 x2 x3 x4 x5) 2147483647#32 reduces_S64x32_S64 rfl) shapeCasts_S64_S64x1 := by
      rintro _ rfl; rfl
    exact e3 _ (shapeCast_self x3 shapeCasts_S64x32_S64x32)
  rw [e]
  show IntOp.minsi (shapeCast S64x1 (multiReductionI .minsi [1] S64 (candCols x0 x1 x2 x3 x4 x5) 2147483647#32 reduces_S64x32_S64 rfl) shapeCasts_S64_S64x1 (ix2 r 0))
    (shapeCast S64x1 (multiReductionI .minsi [1] S64 (tailCols x0 x1 x2 x4 x5) 2147483647#32 reduces_S64x576_S64 rfl) shapeCasts_S64_S64x1 (ix2 r 0)) = _
  rw [shapeCast_a_a1_apply, shapeCast_a_a1_apply]

/-- The bound is one, and no more than the cap. -/
theorem bound_le (h : Given x0 x1 x2 x3 x4 x5 r c q) : (∀ n < 1000000, c n ≤ k2_pay4 x0 x4 (ix2 r 0)) ∧ k2_pay4 x0 x4 (ix2 r 0) ≤ cap := by
  rw [pay4_apply]
  refine ⟨fun n hn => ?_, max_le (Rows.rowMax_le _ _ _ _ r _ h.capped) (Rows.rowMax_le _ _ _ _ r _ fun l => ?_)⟩
  · by_cases hb : n < 999424
    · have h1 := h.bound ⟨n / 31232, by omega⟩ (n % 31232) (by omega)
      rw [show 31232 * (n / 31232) + n % 31232 = n from by omega] at h1
      exact le_max_of_le_left (h1.trans (Rows.le_rowMax x0 _ _ _ r _))
    · have h1 := h.tail ⟨n - 999424, by omega⟩
      rw [show 999424 + (n - 999424) = n from by omega] at h1
      rw [← h1, ← pay2_apply]
      exact le_max_of_le_right (Rows.le_rowMax (k2_pay2 x4) _ _ _ r _)
  · rw [pay2_apply]; exact min_le_right _ _

/-- The pick returns the first column of largest score. -/
theorem picked (h : Given x0 x1 x2 x3 x4 x5 r c q) : ∃ k, First (plain c q) 1000000 k ∧
    k2_pay1 k2_pay3 (k2_pay6 x0 x4 x5) (k2_pay8 x0 x1 x2 x3 x4 x5) (k2_pay9 x0 x1 x2 x4 x5) (ix2 r 0) = BitVec.ofNat 32 k := by
  obtain ⟨hm, hcap⟩ := bound_le h
  have h4 : ∃ m, m = k2_pay4 x0 x4 (ix2 r 0) := ⟨_, rfl⟩
  obtain ⟨m, em⟩ := h4
  rw [← em] at hm hcap
  have hmt : m ≠ ⊤ := ne_of_lt (hcap.trans_lt (lt_top_iff_ne_top.mpr cap_ne_top))
  have hiff : ∀ n < 1000000, ∀ l < 1000000, (shifted c q m n ≤ shifted c q m l ↔ plain c q n ≤ plain c q l) := fun n hn l hl =>
    shifted_le_iff c q m hmt (hm n hn) (hm l hl)
  choose p hF hcol hlog hnoi using h.cand
  -- the columns looked at, and their scores
  obtain ⟨N, hNl, hNr⟩ : ∃ N : Fin 32 ⊕ Fin 576 → ℕ, (∀ b, N (.inl b) = 31232 * b.val + p b) ∧ ∀ l, N (.inr l) = 999424 + l.val :=
    ⟨Sum.elim (fun b => 31232 * b.val + p b) fun l => 999424 + l.val, fun _ => rfl, fun _ => rfl⟩
  have hNlt : ∀ e, N e < 1000000 := by
    rintro (b | l)
    · have := (hF b).lt; have := b.isLt; rw [hNl]; omega
    · have := l.isLt; rw [hNr]; omega
  simp only [← hNl] at hcol hlog hnoi
  have s5 : ∀ b, k2_pay5 x0 x1 x2 x4 (ix2 r b) = shifted c q m (N (.inl b)) := fun b => by
    rw [pay5_apply, ← em, hlog]
    unfold shifted
    rcases hnoi b with e | e
    · rw [e]
    · rw [e, sub_eq_add_neg, EReal.bot_add, EReal.bot_add, EReal.bot_add]
  have s6 : ∀ l, k2_pay6 x0 x4 x5 (ix2 r l) = shifted c q m (N (.inr l)) := fun l => by
    rw [pay6_apply, ← em, h.tail, h.tailNoise, hNr]; rfl
  -- the one of largest score and, among those, of least column
  obtain ⟨e₀, -, he₀⟩ := Finset.exists_max_image Finset.univ (fun e => shifted c q m (N e)) ⟨Sum.inl (0 : Fin 32), Finset.mem_univ _⟩
  obtain ⟨e₁, he₁, hmin⟩ := Finset.exists_min_image (Finset.univ.filter fun e => shifted c q m (N e) = shifted c q m (N e₀)) N
    ⟨e₀, Finset.mem_filter.mpr ⟨Finset.mem_univ _, rfl⟩⟩
  have htop : ∀ e, shifted c q m (N e) ≤ shifted c q m (N e₁) := fun e => (Finset.mem_filter.mp he₁).2 ▸ he₀ e (Finset.mem_univ _)
  have hleast : ∀ e, shifted c q m (N e) = shifted c q m (N e₁) → N e₁ ≤ N e := fun e he =>
    hmin e (Finset.mem_filter.mpr ⟨Finset.mem_univ _, he.trans (Finset.mem_filter.mp he₁).2⟩)
  have s7 : k2_pay7 x0 x1 x2 x4 x5 (ix2 r 0) = shifted c q m (N e₁) := by
    rw [pay7_apply]
    refine le_antisymm (max_le (Rows.rowMax_le _ _ _ _ r _ fun b => ?_) (Rows.rowMax_le _ _ _ _ r _ fun l => ?_)) ?_
    · rw [s5]; exact htop _
    · rw [s6]; exact htop _
    · rcases e₁ with b | l
      · rw [← s5]; exact le_max_of_le_left (Rows.le_rowMax _ _ _ _ r b)
      · rw [← s6]; exact le_max_of_le_right (Rows.le_rowMax _ _ _ _ r l)
  have hN : (BitVec.ofNat 32 (N e₁)).toInt = N e₁ := toInt_ofNat _ (by have := hNlt e₁; omega)
  have hc : ∀ b : Fin 32, (BitVec.ofNat 32 (N e₁)).toInt ≤ (candCols x0 x1 x2 x3 x4 x5 (ix2 r b)).toInt := fun b => by
    have h1 := hNlt e₁
    have h2 := hNlt (.inl b)
    rw [candCols_apply, s5, s7, hN]
    split
    · rename_i e
      rw [hcol, toInt_ofNat _ (by omega)]
      exact_mod_cast hleast _ e
    · show _ ≤ (2147483647 : ℤ); omega
  have ht : ∀ l : Fin 576, (BitVec.ofNat 32 (N e₁)).toInt ≤ (tailCols x0 x1 x2 x4 x5 (ix2 r l)).toInt := fun l => by
    have h1 := hNlt e₁
    have h2 := hNlt (.inr l)
    rw [tailCols_apply, s6, s7, hN, ← hNr]
    split
    · rename_i e
      rw [toInt_ofNat _ (by omega)]
      exact_mod_cast hleast _ e
    · show _ ≤ (2147483647 : ℤ); omega
  have hc' := Rows.le_rowMin (candCols x0 x1 x2 x3 x4 x5) reduces_S64x32_S64 rfl r _ hc
  have ht' := Rows.le_rowMin (tailCols x0 x1 x2 x4 x5) reduces_S64x576_S64 rfl r _ ht
  refine ⟨N e₁, ?_, ?_⟩
  · -- no column does better, and no earlier one as well
    refine First.congr hiff (First.of_least (hNlt e₁) (fun n hn => ?_) (fun n hn e => ?_))
    · by_cases hb : n < 999424
      · have h1 := (hF ⟨n / 31232, by omega⟩).le (n % 31232) (by omega)
        simp only [show 31232 * (n / 31232) + n % 31232 = n from by omega] at h1
        refine le_trans ?_ (htop (.inl ⟨n / 31232, by omega⟩))
        exact (hiff n hn _ (hNlt _)).mpr (by rw [hNl]; exact h1)
      · have h1 := htop (.inr ⟨n - 999424, by omega⟩)
        rw [hNr, show 999424 + (n - 999424) = n from by omega] at h1
        exact h1
    · by_cases hb : n < 999424
      · obtain ⟨b, hbv⟩ : ∃ b : Fin 32, b.val = n / 31232 := ⟨⟨n / 31232, by omega⟩, rfl⟩
        have hn' : 31232 * b.val + n % 31232 = n := by omega
        have h1 := (hF b).le (n % 31232) (by omega)
        simp only [hn'] at h1
        have h2 := (hiff n hn _ (hNlt (.inl b))).mpr (by rw [hNl]; exact h1)
        have h3 := hleast (.inl b) (le_antisymm (htop _) (e ▸ h2))
        refine h3.trans ?_
        by_contra hlt
        have h4 := (hF b).before (n % 31232) (by rw [hNl] at hlt; omega)
        simp only [hn'] at h4
        rw [← hNl] at h4
        have h5 := (hiff _ (hNlt (.inl b)) n hn).mp ((htop (.inl b)).trans e.ge)
        exact absurd h5 (not_le.mpr h4)
      · have h1 := hleast (.inr ⟨n - 999424, by omega⟩)
        rw [hNr, show 999424 + (n - 999424) = n from by omega] at h1
        exact h1 e
  · rw [pay1_apply]
    refine BitVec.eq_of_toInt_eq ?_
    rw [SortNet.toInt_minsi]
    refine le_antisymm ?_ (le_min hc' ht')
    rcases e₁ with b | l
    · refine (min_le_left _ _).trans (le_of_eq (congrArg BitVec.toInt ?_))
      have hb : candCols x0 x1 x2 x3 x4 x5 (ix2 r b) = BitVec.ofNat 32 (N (.inl b)) := by rw [candCols_apply, s5, s7, if_pos rfl, hcol]
      exact (Rows.rowMin_eq _ _ _ r b (by rw [hb]; exact hc)).trans hb
    · refine (min_le_right _ _).trans (le_of_eq (congrArg BitVec.toInt ?_))
      have hl : tailCols x0 x1 x2 x4 x5 (ix2 r l) = BitVec.ofNat 32 (N (.inr l)) := by rw [tailCols_apply, s6, s7, if_pos rfl, hNr]
      exact (Rows.rowMin_eq _ _ _ r l (by rw [hl]; exact ht)).trans hl

end Cert.KernelIdeal.Pick

end
-- ==== Proof.PickArray.lean ====
/- The array the pick leaves: its body's one store, of the arrays it is given. -/
module

public import proofs.«01_k».proof.Proof.PickRegion
public import Idealize.ShloMosaic.Lib.Pipeline.ValueKit

@[expose] public section

set_option maxRecDepth 16384

noncomputable section

namespace Cert.KernelIdeal.Pick

open Cert Cert.KernelIdeal Cert.KernelIdeal.Gen Cert.KernelIdeal.Run Idealize.ShloMosaic Idealize.ShloMosaic.TcCoe

theorem index2_0 : ∀ t : Fin cfg2.N, win2_0.index t = ![0, 0] := (by decide +kernel : ∀ t : Fin grid2.N, win2_0.index t = ![0, 0])
theorem index2_1 : ∀ t : Fin cfg2.N, win2_1.index t = ![0, 0] := (by decide +kernel : ∀ t : Fin grid2.N, win2_1.index t = ![0, 0])
theorem index2_2 : ∀ t : Fin cfg2.N, win2_2.index t = ![0, 0] := (by decide +kernel : ∀ t : Fin grid2.N, win2_2.index t = ![0, 0])
theorem index2_3 : ∀ t : Fin cfg2.N, win2_3.index t = ![0, 0] := (by decide +kernel : ∀ t : Fin grid2.N, win2_3.index t = ![0, 0])
theorem index2_4 : ∀ t : Fin cfg2.N, win2_4.index t = ![0, 0] := (by decide +kernel : ∀ t : Fin grid2.N, win2_4.index t = ![0, 0])
theorem index2_5 : ∀ t : Fin cfg2.N, win2_5.index t = ![0, 0] := (by decide +kernel : ∀ t : Fin grid2.N, win2_5.index t = ![0, 0])
theorem index2_6 : ∀ t : Fin cfg2.N, win2_6.index t = ![0, 0] := (by decide +kernel : ∀ t : Fin grid2.N, win2_6.index t = ![0, 0])

variable (V : (c : Dev nD) → (b : Ref sig .tc) → Buf (Elt Ideal) ((c : Thread nD τ).loc b)) (c : Dev nD) (t : Fin cfg2.N)

/-! Each input block is its whole array. -/

theorem iblk2_0 : iblk2 V c 0 t = V c main_v3 := by
  funext y
  blk_simp [iblk2, index2_0]
  refine congrArg (V c main_v3) ?_
  blk_ext [index2_0]
theorem iblk2_1 : iblk2 V c 1 t = V c main_v5 := by
  funext y
  blk_simp [iblk2, index2_1]
  refine congrArg (V c main_v5) ?_
  blk_ext [index2_1]
theorem iblk2_2 : iblk2 V c 2 t = V c main_v7 := by
  funext y
  blk_simp [iblk2, index2_2]
  refine congrArg (V c main_v7) ?_
  blk_ext [index2_2]
theorem iblk2_3 : iblk2 V c 3 t = V c main_v9 := by
  funext y
  blk_simp [iblk2, index2_3]
  refine congrArg (V c main_v9) ?_
  blk_ext [index2_3]
theorem iblk2_4 : iblk2 V c 4 t = V c main_v10 := by
  funext y
  blk_simp [iblk2, index2_4]
  refine congrArg (V c main_v10) ?_
  blk_ext [index2_4]
theorem iblk2_5 : iblk2 V c 5 t = V c main_v11 := by
  funext y
  blk_simp [iblk2, index2_5]
  refine congrArg (V c main_v11) ?_
  blk_ext [index2_5]

/-- What the body stores, of the six vectors it loads. -/
def stored (x0 x1 x2 : Vec Ideal S64x32 .f32) (x3 : Vec Ideal S64x32 .i32) (x4 x5 : Vec Ideal S64x576 .f32) : IVec S64x1 32 :=
  k2_pay1 k2_pay3 (k2_pay6 x0 x4 x5) (k2_pay8 x0 x1 x2 x3 x4 x5) (k2_pay9 x0 x1 x2 x4 x5)

/-- The pick's array. -/
theorem array6 : (dat2 V c).arrAt 6 cfg2.N
    = fun j : S64x1.Idx => stored (V c main_v3) (V c main_v5) (V c main_v7) (V c main_v9) (V c main_v10) (V c main_v11) j := by
  refine (dat2 V c).arrAt_eq_of_covers 6 _ (by decide +kernel) fun t hf y => ?_
  blk_simp [index2_6]
  rw [after2_6, iblk2_0, iblk2_1, iblk2_2, iblk2_3, iblk2_4, iblk2_5]
  unfold out2_6
  frame_out
  refine congrArg (stored _ _ _ _ _ _) ?_
  blk_ext [index2_6]

end Cert.KernelIdeal.Pick

end
-- ==== Proof.KernelValue.lean ====
/- The kernel's result: at every row, the first column of largest score, clamped logit plus noise. -/
module

public import proofs.«01_k».proof.Proof.Launch
public import proofs.«01_k».proof.Proof.TableArray
public import proofs.«01_k».proof.Proof.ScanArrays
public import proofs.«01_k».proof.Proof.HostStretch
public import proofs.«01_k».proof.Proof.PickRow
public import proofs.«01_k».proof.Proof.PickArray

@[expose] public section

set_option maxRecDepth 16384

noncomputable section

namespace Cert.KernelIdeal.Result

open Cert Cert.KernelIdeal Cert.KernelIdeal.Gen Cert.KernelIdeal.Run Idealize.ShloMosaic.TcCoe Idealize.ShloMosaic.ValueIdx
open Idealize.ShloMosaic hiding ix1 ix2 ix3
open Cert.KernelIdeal.Scan (cap)
open Cert.KernelIdeal.Table (gum)

/-- The clamped logits of a row, by column (a column past the end is read as the last one). -/
def logits (A : S64x1000000.Idx → EReal) (r : Fin 64) (n : ℕ) : EReal := min (A (ix2 r ⟨min n 999999, by omega⟩)) cap

/-- The table of noise, as an array. -/
def table : S64x1000000.Idx → EReal := fun i => ((gum (i 0).val (i 1).val : ℝ) : EReal)

/-- A row of a block of the logits and of the table. -/
theorem reads (A : S64x1000000.Idx → EReal) (b : ℕ) (hb : b < 32) (r : Fin 64) :
    Scan.Reads (Scan.block A b) (Scan.block table b) r (fun p => logits A r (31232 * b + p)) (fun p => gum r.val (31232 * b + p)) where
  logit p := by
    unfold logits Scan.block
    refine congrArg (fun n => min (A n) cap) ?_
    refine congrArg (ix2 r) (Fin.ext ?_)
    show min (b * 31232 + p.val) 999999 = min (31232 * b + p.val) 999999
    rw [Nat.mul_comm]
  noise p := by
    have hp := p.isLt
    show ((gum r.val (min (b * 31232 + p.val) 999999) : ℝ) : EReal) = _
    rw [Nat.min_eq_left (by omega), Nat.mul_comm]

variable (m : (ℓ : Loc nD τ sig) → Buf (Elt Ideal) ℓ) (ρ : Dev nD → PrngReg) (c : Dev nD)

/-- The argument, as an array. -/
def arg : S64x1000000.Idx → EReal := m ((c.tc : Thread nD τ).loc main_arg0)

/-- The scan is entered with the argument and the table. -/
theorem entry_arg : V1 m ρ c main_arg0 = arg m c := W1_args m ρ c main_arg0 (by decide)
theorem entry_table : V1 m ρ c main_v0 = table := (W1_arr m ρ c 0).trans (Table.array (V0 m ρ) c)

/-- After the scan: its four results, and its two inputs as they were. -/
theorem after_arg : W2 m ρ c (Proc.devRef .tc main_arg0) = arg m c := W2_args m ρ c main_arg0 (by decide)
theorem after_table : W2 m ρ c (Proc.devRef .tc main_v0) = table := (W2_of m ρ c main_v0 (by decide)).trans (entry_table m ρ c)
theorem after_bound : W2 m ρ c (Proc.devRef .tc main_v1_0)
    = fun j : S32x64x1.Idx => Scan.rowMax (Scan.maxLogit (Scan.block (arg m c) (j 0).val) 61 le_rfl) (ix2 (j 1) 0) := by
  refine (W2_arr m ρ c 2).trans ((Scan.array2 (V1 m ρ) c).trans ?_)
  rw [entry_arg]
theorem after_logit : W2 m ρ c (Proc.devRef .tc main_v1_1)
    = fun j : S32x64x1.Idx => Scan.rowMax (select (Scan.chosen (Scan.point (j 0).val) (Scan.block (arg m c) (j 0).val) (Scan.block table (j 0).val))
      (Scan.bestLogit (Scan.block (arg m c) (j 0).val) (Scan.block table (j 0).val) 61 le_rfl) Scan.bottom) (ix2 (j 1) 0) := by
  refine (W2_arr m ρ c 3).trans ((Scan.array3 (V1 m ρ) c).trans ?_)
  rw [entry_arg, entry_table]
theorem after_noise : W2 m ρ c (Proc.devRef .tc main_v1_2)
    = fun j : S32x64x1.Idx => Scan.rowMax (select (Scan.chosen (Scan.point (j 0).val) (Scan.block (arg m c) (j 0).val) (Scan.block table (j 0).val))
      (Scan.bestNoise (Scan.block (arg m c) (j 0).val) (Scan.block table (j 0).val) 61 le_rfl) Scan.bottom) (ix2 (j 1) 0) := by
  refine (W2_arr m ρ c 4).trans ((Scan.array4 (V1 m ρ) c).trans ?_)
  rw [entry_arg, entry_table]
theorem after_column : W2 m ρ c (Proc.devRef .tc main_v1_3)
    = fun j : S32x64x1.Idx => Scan.pickColumn (Scan.point (j 0).val) (Scan.block (arg m c) (j 0).val) (Scan.block table (j 0).val) (ix2 (j 1) 0) := by
  refine (W2_arr m ρ c 5).trans ((Scan.array5 (V1 m ρ) c).trans ?_)
  rw [entry_arg, entry_table]

/-- What the pick is given, row by row. -/
theorem given (r : Fin 64) : Pick.Given (V3 m ρ c main_v3) (V3 m ρ c main_v5) (V3 m ρ c main_v7) (V3 m ρ c main_v9) (V3 m ρ c main_v10) (V3 m ρ c main_v11) r
    (logits (arg m c) r) (gum r.val) where
  bound b p hp := by
    refine le_trans ((Scan.bound (reads (arg m c) b.val b.isLt r)).1 p hp) (le_of_eq ?_)
    exact ((Host.v3_apply (W2 m ρ c) r b).trans (congrFun (after_bound m ρ c) _)).symm
  capped b := by
    refine le_trans (le_of_eq ?_) (Scan.bound (reads (arg m c) b.val b.isLt r)).2
    exact (Host.v3_apply (W2 m ρ c) r b).trans (congrFun (after_bound m ρ c) _)
  cand b := by
    obtain ⟨p, hp, hcol, hlog, hnoi⟩ := Scan.candidate (reads (arg m c) b.val b.isLt r) (Scan.point b.val)
    have hb : ((Scan.point b.val) 0).val = b.val := Nat.mod_eq_of_lt b.isLt
    rw [hb] at hcol
    refine ⟨p, hp, ?_, ?_, ?_⟩
    · exact ((Host.v9_apply (W2 m ρ c) r b).trans (congrFun (after_column m ρ c) _)).trans hcol
    · exact ((Host.v5_apply (W2 m ρ c) r b).trans (congrFun (after_logit m ρ c) _)).trans hlog
    · exact hnoi.imp_left fun h => ((Host.v7_apply (W2 m ρ c) r b).trans (congrFun (after_noise m ρ c) _)).trans h
  tail l := by
    have h := (Host.v10_apply (W2 m ρ c) r l).trans (congrFun (after_arg m ρ c) _)
    refine (congrArg (fun z : EReal => min z cap) h).trans ?_
    unfold logits
    refine congrArg (fun n => min (arg m c n) cap) (congrArg (ix2 r) (Fin.ext ?_))
    have := l.isLt
    show 999424 + l.val = min (999424 + l.val) 999999
    omega
  tailNoise l := (Host.v11_apply (W2 m ρ c) r l).trans (congrFun (after_table m ρ c) _)

/-- The kernel's result at a row. -/
theorem result (r : Fin 64) : ∃ k, First (plain (logits (arg m c) r) (gum r.val)) 1000000 k ∧
    ((dat2 (V3 m ρ) c).arrAt 6 cfg2.N : S64x1.Idx → BitVec 32) (ix2 r 0) = BitVec.ofNat 32 k := by
  obtain ⟨k, hk, e⟩ := Pick.picked (given m ρ c r)
  exact ⟨k, hk, (congrFun (Pick.array6 (V3 m ρ) c) _).trans e⟩

end Cert.KernelIdeal.Result

end
-- ==== Proof.ReferenceValue.lean ====
/- What the reference returns, row by row: the first column of largest score, where a score is the capped logit less the
   row's largest, plus the noise of the counter's bits. -/
module

public import proofs.«01_k».proof.Proof.ReferenceBits
public import proofs.«01_k».proof.Proof.ArgMax
public import proofs.«01_k».proof.Proof.KernelValue

@[expose] public section

set_option maxRecDepth 16384

noncomputable section

namespace Cert.ReferenceIdeal.Result

open Cert.ReferenceIdeal Cert.ReferenceIdeal.Gen Cert.ReferenceIdeal.Value Cert.ReferenceIdeal.Bits
open Idealize.ShloMosaic hiding ix1 ix2
open Idealize.ShloMosaic.TcCoe Idealize.ShloMosaic.ValueIdx
open Cert
open Cert.KernelIdeal.Scan (cap toInt_ofNat)
open Cert.KernelIdeal.Pick (cap_ne_top)
open Cert.KernelIdeal.Table (gum counter)
open Cert.KernelIdeal.Result (logits)

/-- The noise of a vector of random bits, as the reference computes it. -/
def noiseOf (z : IVec S64x1000000 32) : FVec Ideal S64x1000000 .f32 :=
  Host.negf (Host.log (Host.negf (Host.log (maximumf (all (constant S_ .f32 0x00800000#32)) (addf (mulf (subf (bitcastToFloat (F := Ideal) .f32
    (ori (Host.shrui z (all (constantI S_ 32 9#32))) (all (constantI S_ 32 1065353216#32)))) (all (constant S_ .f32 0x3F800000#32)))
      (all (constant S_ .f32 0x3F800000#32))) (all (constant S_ .f32 0x00800000#32)))))))

/-- The reference's noise at one entry. -/
theorem noiseOf_apply (z : IVec S64x1000000 32) (y : S64x1000000.Idx) : noiseOf z y = ((Gumbel.noise (z y) : ℝ) : EReal) := by
  rw [← Gumbel.reference_noise]
  rfl

/-- Division by the temperature, which is 1. -/
theorem div_one (x : EReal) : Ideal.div x (Ideal.ofBits .f32 0x3F800000#32) = x := by
  rw [Gumbel.ofBits_one, Ideal.div_coe one_ne_zero, one_div_one, EReal.coe_one, mul_one]

/-- A vector's value at one entry. -/
abbrev entry (x : S64x1000000.Idx → EReal) (y : S64x1000000.Idx) : EReal := x y
/-- A column's value at one row. -/
abbrev entry1 (x : S64.Idx → EReal) (y : S64.Idx) : EReal := x y

variable (V0 : Valuation τ sig (Elt Ideal))

/-- The reference's argument. -/
abbrev arg : S64x1000000.Idx → EReal := V0 (Proc.devRef .tc main_arg0)
/-- A row's largest capped logit. -/
def top : FVec Ideal S64 .f32 :=
  Host.reduce FloatOps.maximumf (res_main_v1 V0) (constant S_ .f32 0xFF800000#32) reducesTo_S64x1000000_S64_d1 h_S_
/-- Its scores. -/
def scores : FVec Ideal S64x1000000 .f32 := res_main_v49 V0

/-- The capped logit at one entry. -/
theorem capped_apply (r : Fin 64) (l : Fin 1000000) : (res_main_v1 V0 : S64x1000000.Idx → EReal) (ix2 r l) = logits (arg V0) r l.val := by
  have e : (ix2 r l : S64x1000000.Idx) = ix2 r ⟨min l.val 999999, by omega⟩ := congrArg (ix2 r) (Fin.ext (by have := l.isLt; show l.val = min l.val 999999; omega))
  show min (arg V0 (ix2 r l)) cap = min (arg V0 _) cap
  rw [e]

/-- The row's largest capped logit is not plus infinity, and bounds the row. -/
theorem top_bound (r : Fin 64) : (∀ n < 1000000, logits (arg V0) r n ≤ (top V0 (ix1 r) : EReal)) ∧ (top V0 (ix1 r) : EReal) ≠ ⊤ := by
  constructor
  · intro n hn
    have h := ArgMax.le_rowMax (res_main_v1 V0) (constant S_ .f32 0xFF800000#32) reducesTo_S64x1000000_S64_d1 h_S_ r ⟨n, hn⟩
    rw [capped_apply] at h
    exact h
  · have h := ArgMax.rowMax_le (res_main_v1 V0) (constant S_ .f32 0xFF800000#32) reducesTo_S64x1000000_S64_d1 h_S_ r cap
      (le_of_eq_of_le Rows.ofBits_bot bot_le) (fun l => by rw [capped_apply]; exact min_le_right _ _)
    exact ne_of_lt (lt_of_le_of_lt h (lt_top_iff_ne_top.mpr cap_ne_top))

/-- Row entries, spread along the rows. -/
def spread (x : S64.Idx → EReal) : S64x1000000.Idx → EReal :=
  broadcastInDim S64x1000000 ![0, 1] bcast_S64x1_S64x1000000_0_1 (broadcastInDim S64x1 ![0] bcast_S64_S64x1_0 x)

/-- They are read at their row. -/
theorem spread_apply (x : S64.Idx → EReal) (r : Fin 64) (l : Fin 1000000) : spread x (ix2 r l) = x (ix1 r) := by
  refine congrArg x (funext fun d => ?_)
  match d with
  | ⟨0, _⟩ => exact Fin.ext rfl

/-- Noise plus a quotient of a difference, at one entry. -/
theorem sum_apply (g x t : FVec Ideal S64x1000000 .f32) (y : S64x1000000.Idx) :
    addf g (Host.divf (subf x t) (all (constant S_ .f32 0x3F800000#32))) y = entry g y + Ideal.div (entry x y - entry t y) (Ideal.ofBits .f32 0x3F800000#32) := rfl

/-- The scores: noise plus the quotient. -/
theorem scores_eq : scores V0 = addf (noiseOf (last V0)) (Host.divf (subf (res_main_v1 V0) (spread (top V0))) (all (constant S_ .f32 0x3F800000#32))) := rfl

/-- The score at one entry. -/
theorem scores_apply (r : Fin 64) (l : Fin 1000000) : (scores V0 (ix2 r l) : EReal) = shifted (logits (arg V0) r) (gum r.val) (top V0 (ix1 r)) l.val := by
  have h1 : entry (noiseOf (last V0)) (ix2 r l) = (gum r.val l.val : EReal) := by
    rw [entry, noiseOf_apply, last_apply]; rfl
  have h2 : Ideal.div (entry (res_main_v1 V0) (ix2 r l) - entry (spread (top V0)) (ix2 r l)) (Ideal.ofBits .f32 0x3F800000#32)
      = logits (arg V0) r l.val - top V0 (ix1 r) := by
    rw [div_one, entry, entry, capped_apply, spread_apply]
  rw [scores_eq, sum_apply, h1, h2, add_comm]
  unfold shifted
  rfl

/-- A column of row entries, read at a row. -/
theorem column_apply (f : S64.Idx → BitVec 32) (r : Fin 64) : broadcastInDim S64x1 ![0] bcast_S64_S64x1_0 f (ix2 r 0) = f (ix1 r) := by
  refine congrArg f (funext fun d => ?_)
  match d with
  | ⟨0, _⟩ => exact Fin.ext rfl

/-- What the reference returns: its index column. -/
def index : S64x1.Idx → BitVec 32 := broadcastInDim S64x1 ![0] bcast_S64_S64x1_0 (fun j => (Host.argReduce reducer_argmax_f32_i32 (scores V0)
  (res_main_call1_v0 V0) (res_main_call1_cst V0) (res_main_call1_c V0) reducesTo_S64x1000000_S64_d1 h_S_ j).2)

/-- The reference's result at a row: the first column of largest score. -/
theorem result (r : Fin 64) : ∃ k, First (plain (logits (arg V0) r) (gum r.val)) 1000000 k ∧ index V0 (ix2 r 0) = BitVec.ofNat 32 k := by
  obtain ⟨k, hk, e⟩ := ArgMax.first (scores V0) (res_main_call1_v0 V0) (res_main_call1_cst V0) (res_main_call1_c V0) reducesTo_S64x1000000_S64_d1 h_S_ r
    (by decide) (by decide) Rows.ofBits_bot rfl (fun l => rfl) (fun k hk => toInt_ofNat k (by omega)) _ (scores_apply V0 r)
  have hb := top_bound V0 r
  refine ⟨k, First.congr (fun n hn l hl => shifted_le_iff _ _ _ hb.2 (hb.1 n hn) (hb.1 l hl)) hk, ?_⟩
  unfold index
  rw [column_apply]
  exact e

end Cert.ReferenceIdeal.Result

end
-- ==== Proof.Equation.lean ====
/- Over the extended reals the kernel and the reference return the same indices: in every row both return the first
   column of largest score, and there is only one. -/
module

public import proofs.«01_k».proof.Defs
public import proofs.«01_k».proof.Proof.ReferenceValue

@[expose] public section

set_option maxRecDepth 16384

noncomputable section

namespace Cert.Proof

open Idealize.ShloMosaic hiding ix1 ix2 eq_ix2
open Idealize.ShloMosaic.TcCoe Idealize.SL.Sem Idealize.ShloMosaic.ValueIdx
open Cert

/-- What the kernel leaves on a device, as a column of indices. -/
def kernelIndex (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) : Cert.KernelIdeal.S64x1.Idx → BitVec 32 :=
  (Cert.KernelIdeal.Run.dat2 (Cert.KernelIdeal.Run.V3 m ρ) c).arrAt 6 Cert.KernelIdeal.cfg2.N

/-- The two columns of indices are equal when the arguments are. -/
theorem same_index (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (V0 : Valuation Cert.ReferenceIdeal.τ Cert.ReferenceIdeal.sig (Elt Ideal))
    (h : Cert.ReferenceIdeal.Result.arg V0 = Cert.KernelIdeal.Result.arg m c) : Cert.ReferenceIdeal.Result.index V0 = kernelIndex m ρ c := by
  funext i
  obtain ⟨k, hk, ek⟩ := Cert.KernelIdeal.Result.result m ρ c (i 0)
  obtain ⟨l, hl, el⟩ := Cert.ReferenceIdeal.Result.result V0 (i 0)
  rw [h] at hl
  have e0 : i 1 = (0 : Fin 1) := Subsingleton.elim (α := Fin 1) _ _
  have hi : i = (ix2 (i 0) (0 : Fin 1) : Cert.KernelIdeal.S64x1.Idx) := (eq_ix2 i).trans (congrArg (fun j : Fin 1 => (ix2 (i 0) j : Cert.KernelIdeal.S64x1.Idx)) e0)
  rw [hi]
  exact (el.trans (congrArg (BitVec.ofNat 32) (First.unique hl hk))).trans ek.symm

/-- The idealised program and the reference end with equal results and unchanged arguments. -/
theorem algebraic : Cert.algebraic_KernelIdeal_ReferenceIdeal (hKernelIdeal := Cert.KernelIdeal.Gen.facts) (hReferenceIdeal := Cert.ReferenceIdeal.Gen.facts) :=
  fun m ρ m' ρ' _ h => ⟨fun c => kernelIndex m ρ c, Cert.KernelIdeal.Run.run_result (F := Ideal) m ρ,
    (θ_run Cert.ReferenceIdeal.defs _ _).mono (fun _ hr c => ⟨(hr c).1.trans (same_index m ρ c _ (h c)), (hr c).2⟩)
      (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Launch
public import proofs.«01_k».proof.Proof.ReferenceRun
public import proofs.«01_k».proof.Proof.SameText
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The idealised program's frame at the ideal floats. -/
theorem frame_kernelIdeal : Cert.quiescent_KernelIdeal (hKernelIdeal := Cert.KernelIdeal.Gen.facts) := fun m ρ _ =>
  Cert.KernelIdeal.Run.frame (F := Ideal) m ρ

/-- The reference at the ideal floats: it runs and leaves its argument unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Everything the certificate claims: the three frames, that the idealisation preserves the kernel, and that the
    idealised kernel and the reference end with equal results. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
